-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v376) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x512 : Shape := ⟨2, ![1024, 512]⟩
abbrev S65536 : Shape := ⟨1, ![65536]⟩
abbrev S16384x16 : Shape := ⟨2, ![16384, 16]⟩
abbrev S128 : Shape := ⟨1, ![128]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S65536 : S_.BroadcastsInDim S65536 (![] : Fin 0 → Fin S65536.rank)
  reducesTo_S65536_S_d0 : S65536.ReducesTo [0] S_
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_v9 : IVec S_ 1) (main_v15 : IVec S_ 1) : IVec S_ 1 :=
  let main_v16 : IVec S_ 1 := andi main_v9 main_v15
  main_v16

def fn {F : FTy → Type} [FloatOps F] (main_arg0 : FVec F S1024x512 .f32) (main_arg1 : IVec S65536 32) (main_arg2 : FVec F S16384x16 .f32) (main_arg3 : FVec F S128 .f32) : IVec S_ 1 :=
  let main_cst : FVec F S_ .f32 := constant S_ .f32 0x00000000#32
  let main_v0 : FVec F S1024x512 .f32 := broadcastInDim S1024x512 ![] bcast_S_S1024x512 main_cst
  let main_v1 : IVec S1024x512 1 := cmpf .oge main_arg0 main_v0
  let main_cst_0 : FVec F S_ .f32 := constant S_ .f32 0x3F800000#32
  let main_v2 : FVec F S1024x512 .f32 := broadcastInDim S1024x512 ![] bcast_S_S1024x512 main_cst_0
  let main_v3 : IVec S1024x512 1 := cmpf .ole main_arg0 main_v2
  let main_v4 : IVec S1024x512 1 := andi main_v1 main_v3
  let main_c : IVec S_ 1 := constantI S_ 1 1#1
  let main_v5 : IVec S_ 1 := (fun x v => Host.reduce IntOp.andi x v reducesTo_S1024x512_S_d0_1 h_S_) main_v4 main_c
  let main_c_1 : IVec S_ 32 := constantI S_ 32 0#32
  let main_v6 : IVec S65536 32 := broadcastInDim S65536 ![] bcast_S_S65536 main_c_1
  let main_v7 : IVec S65536 1 := cmpi .sge main_arg1 main_v6
  let main_c_2 : IVec S_ 1 := constantI S_ 1 1#1
  let main_v8 : IVec S_ 1 := (fun x v => Host.reduce IntOp.andi x v reducesTo_S65536_S_d0 h_S_) main_v7 main_c_2
  let main_v9 : IVec S_ 1 := andi main_v5 main_v8
  let main_cst_3 : FVec F S_ .f32 := constant S_ .f32 0xFF800000#32
  let main_v10 : FVec F S16384x16 .f32 := broadcastInDim S16384x16 ![] bcast_S_S16384x16 main_cst_3
  let main_v11 : IVec S16384x16 1 := cmpf .ogt main_arg2 main_v10
  let main_cst_4 : FVec F S_ .f32 := constant S_ .f32 0x7F800000#32
  let main_v12 : FVec F S16384x16 .f32 := broadcastInDim S16384x16 ![] bcast_S_S16384x16 main_cst_4
  let main_v13 : IVec S16384x16 1 := cmpf .olt main_arg2 main_v12
  let main_v14 : IVec S16384x16 1 := andi main_v11 main_v13
  let main_c_5 : IVec S_ 1 := constantI S_ 1 1#1
  let main_v15 : IVec S_ 1 := (fun x v => Host.reduce IntOp.andi x v reducesTo_S16384x16_S_d0_1 h_S_) main_v14 main_c_5
  fn_part1 (F := F) main_v9 main_v15
-- ==== Kernel.lean ====
abbrev S1024x512 : Shape := ⟨2, ![1024, 512]⟩
abbrev S65536 : Shape := ⟨1, ![65536]⟩
abbrev S16384x16 : Shape := ⟨2, ![16384, 16]⟩
abbrev S128 : Shape := ⟨1, ![128]⟩
abbrev S64x256x4 : Shape := ⟨3, ![64, 256, 4]⟩
abbrev S64x4x256 : Shape := ⟨3, ![64, 4, 256]⟩
abbrev S4x1x16384 : Shape := ⟨3, ![4, 1, 16384]⟩
abbrev S16x16384 : Shape := ⟨2, ![16, 16384]⟩
abbrev S1x128 : Shape := ⟨2, ![1, 128]⟩
abbrev S1024x128 : Shape := ⟨2, ![1024, 128]⟩
abbrev S1x1x16384 : Shape := ⟨3, ![1, 1, 16384]⟩
abbrev S16x4096 : Shape := ⟨2, ![16, 4096]⟩
abbrev S1x1x1024 : Shape := ⟨3, ![1, 1, 1024]⟩
abbrev S1x1024 : Shape := ⟨2, ![1, 1024]⟩
abbrev S512x1024 : Shape := ⟨2, ![512, 1024]⟩
abbrev S1024x1024 : Shape := ⟨2, ![1024, 1024]⟩
abbrev S1x256 : Shape := ⟨2, ![1, 256]⟩
abbrev S1024x256 : Shape := ⟨2, ![1024, 256]⟩
abbrev S256x128 : Shape := ⟨2, ![256, 128]⟩

abbrev nBuf : Space → Nat
  | .hbm => 11
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S65536, .i32⟩
  | .hbm, ⟨2, _⟩ => ⟨S16384x16, .f32⟩
  | .hbm, ⟨3, _⟩ => ⟨S128, .f32⟩
  | .hbm, ⟨4, _⟩ => ⟨S1024x512, .bf16⟩
  | .hbm, ⟨5, _⟩ => ⟨S64x256x4, .i32⟩
  | .hbm, ⟨6, _⟩ => ⟨S64x4x256, .i32⟩
  | .hbm, ⟨7, _⟩ => ⟨S4x1x16384, .i32⟩
  | .hbm, ⟨8, _⟩ => ⟨S16x16384, .f32⟩
  | .hbm, ⟨9, _⟩ => ⟨S1x128, .f32⟩
  | .hbm, ⟨10, _⟩ => ⟨S1024x128, .f32⟩
  | .local _ .vmem, ⟨0, _⟩ => ⟨S1x1x16384, .i32⟩
  | .local _ .vmem, ⟨1, _⟩ => ⟨S1x1x16384, .i32⟩
  | .local _ .vmem, ⟨2, _⟩ => ⟨S1024x512, .bf16⟩
  | .local _ .vmem, ⟨3, _⟩ => ⟨S16x4096, .f32⟩
  | .local _ .vmem, ⟨4, _⟩ => ⟨S16x4096, .f32⟩
  | .local _ .vmem, ⟨5, _⟩ => ⟨S1x128, .f32⟩
  | .local _ .vmem, ⟨6, _⟩ => ⟨S1024x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_722 : BitVec 32 := 0#32
  let v2335 : BitVec 1 := Scalar.cmpi .eq arg0 c0_i32_722
  let v2336 : BitVec 32 := Scalar.extui v2335
  let c0_i32_723 : BitVec 32 := 0#32
  let v2337 : BitVec 1 := Scalar.cmpi .ne v2336 c0_i32_723
  v2337

def k0_cond2 (i : grid0.Coords) : BitVec 1 :=
  let arg0 : BitVec 32 := BitVec.ofNat 32 (i 0).val
  let c0_i32_724 : BitVec 32 := 0#32
  let v2338 : BitVec 1 := Scalar.cmpi .ne arg0 c0_i32_724
  let v2339 : BitVec 32 := Scalar.extui v2338
  let c0_i32_725 : BitVec 32 := 0#32
  let v2340 : BitVec 1 := Scalar.cmpi .ne v2339 c0_i32_725
  v2340

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x512 : Shape := ⟨2, ![1024, 512]⟩
abbrev S65536 : Shape := ⟨1, ![65536]⟩
abbrev S16384x16 : Shape := ⟨2, ![16384, 16]⟩
abbrev S128 : Shape := ⟨1, ![128]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S1024x65536 : Shape := ⟨2, ![1024, 65536]⟩
abbrev S1024x16384x4 : Shape := ⟨3, ![1024, 16384, 4]⟩
abbrev S1024x16384 : Shape := ⟨2, ![1024, 16384]⟩
abbrev S1024x16384x1 : Shape := ⟨3, ![1024, 16384, 1]⟩
abbrev S16384x1 : Shape := ⟨2, ![16384, 1]⟩
abbrev S16384 : Shape := ⟨1, ![16384]⟩
abbrev S1x16384 : Shape := ⟨2, ![1, 16384]⟩
abbrev S1024x128x128 : Shape := ⟨3, ![1024, 128, 128]⟩
abbrev S1024x128 : Shape := ⟨2, ![1024, 128]⟩
abbrev S1x128 : Shape := ⟨2, ![1, 128]⟩

abbrev nBuf : Space → Nat
  | .hbm => 460
  | .vmem => 0
  | .smem => 0
  | _ => 0

abbrev hbmTy0_0 (i : Nat) : BufTy := match i % 128 with
  | 0 => ⟨S1024x512, .f32⟩
  | 1 => ⟨S65536, .i32⟩
  | 2 => ⟨S16384x16, .f32⟩
  | 3 => ⟨S128, .f32⟩
  | 4 => ⟨S_, .i32⟩
  | 5 => ⟨S65536, .i32⟩
  | 6 => ⟨S65536, .i1⟩
  | 7 => ⟨S_, .i32⟩
  | 8 => ⟨S65536, .i32⟩
  | 9 => ⟨S65536, .i32⟩
  | 10 => ⟨S65536, .i32⟩
  | 11 => ⟨S65536x1, .i32⟩
  | 12 => ⟨S1, .i32⟩
  | 13 => ⟨S_, .i32⟩
  | 14 => ⟨S65536x1, .i32⟩
  | 15 => ⟨S65536x1, .i1⟩
  | 16 => ⟨S1x1, .i32⟩
  | 17 => ⟨S65536x1, .i32⟩
  | 18 => ⟨S65536x1, .i1⟩
  | 19 => ⟨S65536x1, .i1⟩
  | 20 => ⟨S_, .i1⟩
  | 21 => ⟨S65536, .i1⟩
  | 22 => ⟨S1024x65536, .f32⟩
  | 23 => ⟨S1024x65536, .i1⟩
  | 24 => ⟨S_, .f32⟩
  | 25 => ⟨S1024x65536, .f32⟩
  | 26 => ⟨S1024x65536, .f32⟩
  | 27 => ⟨S1024x16384x4, .f32⟩
  | 28 => ⟨S_, .f32⟩
  | 29 => ⟨S_, .f32⟩
  | 30 => ⟨S_, .f32⟩
  | 31 => ⟨S1024x16384x4, .f32⟩
  | 32 => ⟨S1024x16384x4, .f32⟩
  | 33 => ⟨S_, .f32⟩
  | 34 => ⟨S1024x16384x4, .f32⟩
  | 35 => ⟨S1024x16384x4, .f32⟩
  | 36 => ⟨S_, .f32⟩
  | 37 => ⟨S1024x16384, .f32⟩
  | 38 => ⟨S_, .f32⟩
  | 39 => ⟨S1024x16384, .f32⟩
  | 40 => ⟨S1024x16384x1, .f32⟩
  | 41 => ⟨S1024x16384, .f32⟩
  | 42 => ⟨S_, .f32⟩
  | 43 => ⟨S1024x16384, .f32⟩
  | 44 => ⟨S1024x16384, .f32⟩
  | 45 => ⟨S1024x16384, .f32⟩
  | 46 => ⟨S1024x16384x1, .f32⟩
  | 47 => ⟨S1024x16384, .f32⟩
  | 48 => ⟨S_, .f32⟩
  | 49 => ⟨S1024x16384, .f32⟩
  | 50 => ⟨S1024x16384, .f32⟩
  | 51 => ⟨S1024x16384, .f32⟩
  | 52 => ⟨S1024x16384x1, .f32⟩
  | 53 => ⟨S1024x16384, .f32⟩
  | 54 => ⟨S_, .f32⟩
  | 55 => ⟨S1024x16384, .f32⟩
  | 56 => ⟨S1024x16384, .f32⟩
  | 57 => ⟨S1024x16384, .f32⟩
  | 58 => ⟨S1024x16384x1, .f32⟩
  | 59 => ⟨S1024x16384, .f32⟩
  | 60 => ⟨S_, .f32⟩
  | 61 => ⟨S1024x16384, .f32⟩
  | 62 => ⟨S1024x16384, .f32⟩
  | 63 => ⟨S1024x16384, .f32⟩
  | 64 => ⟨S16384x1, .f32⟩
  | 65 => ⟨S16384, .f32⟩
  | 66 => ⟨S1x16384, .f32⟩
  | 67 => ⟨S1024x16384, .f32⟩
  | 68 => ⟨S1024x16384, .f32⟩
  | 69 => ⟨S1024x16384, .f32⟩
  | 70 => ⟨S_, .f32⟩
  | 71 => ⟨S1024x16384, .f32⟩
  | 72 => ⟨S1024x16384x1, .f32⟩
  | 73 => ⟨S1024x16384, .f32⟩
  | 74 => ⟨S1024x16384, .f32⟩
  | 75 => ⟨S1024x16384x1, .f32⟩
  | 76 => ⟨S1024x16384, .f32⟩
  | 77 => ⟨S_, .f32⟩
  | 78 => ⟨S1024x16384, .f32⟩
  | 79 => ⟨S1024x16384, .f32⟩
  | 80 => ⟨S1024x16384, .f32⟩
  | 81 => ⟨S1024x16384x1, .f32⟩
  | 82 => ⟨S1024x16384, .f32⟩
  | 83 => ⟨S_, .f32⟩
  | 84 => ⟨S1024x16384, .f32⟩
  | 85 => ⟨S1024x16384, .f32⟩
  | 86 => ⟨S1024x16384, .f32⟩
  | 87 => ⟨S1024x16384x1, .f32⟩
  | 88 => ⟨S1024x16384, .f32⟩
  | 89 => ⟨S_, .f32⟩
  | 90 => ⟨S1024x16384, .f32⟩
  | 91 => ⟨S1024x16384, .f32⟩
  | 92 => ⟨S1024x16384, .f32⟩
  | 93 => ⟨S16384x1, .f32⟩
  | 94 => ⟨S16384, .f32⟩
  | 95 => ⟨S1x16384, .f32⟩
  | 96 => ⟨S1024x16384, .f32⟩
  | 97 => ⟨S1024x16384, .f32⟩
  | 98 => ⟨S1024x16384, .f32⟩
  | 99 => ⟨S_, .f32⟩
  | 100 => ⟨S1024x16384, .f32⟩
  | 101 => ⟨S1024x16384x1, .f32⟩
  | 102 => ⟨S1024x16384, .f32⟩
  | 103 => ⟨S_, .f32⟩
  | 104 => ⟨S1024x16384, .f32⟩
  | 105 => ⟨S1024x16384, .f32⟩
  | 106 => ⟨S1024x16384, .f32⟩
  | 107 => ⟨S1024x16384x1, .f32⟩
  | 108 => ⟨S1024x16384, .f32⟩
  | 109 => ⟨S1024x16384, .f32⟩
  | 110 => ⟨S1024x16384x1, .f32⟩
  | 111 => ⟨S1024x16384, .f32⟩
  | 112 => ⟨S_, .f32⟩
  | 113 => ⟨S1024x16384, .f32⟩
  | 114 => ⟨S1024x16384, .f32⟩
  | 115 => ⟨S1024x16384, .f32⟩
  | 116 => ⟨S1024x16384x1, .f32⟩
  | 117 => ⟨S1024x16384, .f32⟩
  | 118 => ⟨S_, .f32⟩
  | 119 => ⟨S1024x16384, .f32⟩
  | 120 => ⟨S1024x16384, .f32⟩
  | 121 => ⟨S1024x16384, .f32⟩
  | 122 => ⟨S16384x1, .f32⟩
  | 123 => ⟨S16384, .f32⟩
  | 124 => ⟨S1x16384, .f32⟩
  | 125 => ⟨S1024x16384, .f32⟩
  | 126 => ⟨S1024x16384, .f32⟩
  | 127 => ⟨S1024x16384, .f32⟩
  | _ => ⟨S1024x512, .f32⟩

abbrev hbmTy0_1 (i : Nat) : BufTy := match i % 128 with
  | 0 => ⟨S_, .f32⟩
  | 1 => ⟨S1024x16384, .f32⟩
  | 2 => ⟨S1024x16384x1, .f32⟩
  | 3 => ⟨S1024x16384, .f32⟩
  | 4 => ⟨S1024x16384, .f32⟩
  | 5 => ⟨S1024x16384x1, .f32⟩
  | 6 => ⟨S1024x16384, .f32⟩
  | 7 => ⟨S1024x16384, .f32⟩
  | 8 => ⟨S1024x16384x1, .f32⟩
  | 9 => ⟨S1024x16384, .f32⟩
  | 10 => ⟨S_, .f32⟩
  | 11 => ⟨S1024x16384, .f32⟩
  | 12 => ⟨S1024x16384, .f32⟩
  | 13 => ⟨S1024x16384, .f32⟩
  | 14 => ⟨S1024x16384x1, .f32⟩
  | 15 => ⟨S1024x16384, .f32⟩
  | 16 => ⟨S_, .f32⟩
  | 17 => ⟨S1024x16384, .f32⟩
  | 18 => ⟨S1024x16384, .f32⟩
  | 19 => ⟨S1024x16384, .f32⟩
  | 20 => ⟨S16384x1, .f32⟩
  | 21 => ⟨S16384, .f32⟩
  | 22 => ⟨S1x16384, .f32⟩
  | 23 => ⟨S1024x16384, .f32⟩
  | 24 => ⟨S1024x16384, .f32⟩
  | 25 => ⟨S1024x16384, .f32⟩
  | 26 => ⟨S_, .f32⟩
  | 27 => ⟨S1024x16384, .f32⟩
  | 28 => ⟨S1024x16384x1, .f32⟩
  | 29 => ⟨S1024x16384, .f32⟩
  | 30 => ⟨S_, .f32⟩
  | 31 => ⟨S1024x16384, .f32⟩
  | 32 => ⟨S1024x16384, .f32⟩
  | 33 => ⟨S1024x16384, .f32⟩
  | 34 => ⟨S1024x16384x1, .f32⟩
  | 35 => ⟨S1024x16384, .f32⟩
  | 36 => ⟨S_, .f32⟩
  | 37 => ⟨S1024x16384, .f32⟩
  | 38 => ⟨S1024x16384, .f32⟩
  | 39 => ⟨S1024x16384, .f32⟩
  | 40 => ⟨S1024x16384x1, .f32⟩
  | 41 => ⟨S1024x16384, .f32⟩
  | 42 => ⟨S1024x16384, .f32⟩
  | 43 => ⟨S1024x16384x1, .f32⟩
  | 44 => ⟨S1024x16384, .f32⟩
  | 45 => ⟨S_, .f32⟩
  | 46 => ⟨S1024x16384, .f32⟩
  | 47 => ⟨S1024x16384, .f32⟩
  | 48 => ⟨S1024x16384, .f32⟩
  | 49 => ⟨S16384x1, .f32⟩
  | 50 => ⟨S16384, .f32⟩
  | 51 => ⟨S1x16384, .f32⟩
  | 52 => ⟨S1024x16384, .f32⟩
  | 53 => ⟨S1024x16384, .f32⟩
  | 54 => ⟨S1024x16384, .f32⟩
  | 55 => ⟨S_, .f32⟩
  | 56 => ⟨S1024x16384, .f32⟩
  | 57 => ⟨S1024x16384x1, .f32⟩
  | 58 => ⟨S1024x16384, .f32⟩
  | 59 => ⟨S1024x16384, .f32⟩
  | 60 => ⟨S1024x16384x1, .f32⟩
  | 61 => ⟨S1024x16384, .f32⟩
  | 62 => ⟨S_, .f32⟩
  | 63 => ⟨S1024x16384, .f32⟩
  | 64 => ⟨S1024x16384, .f32⟩
  | 65 => ⟨S1024x16384, .f32⟩
  | 66 => ⟨S1024x16384x1, .f32⟩
  | 67 => ⟨S1024x16384, .f32⟩
  | 68 => ⟨S1024x16384, .f32⟩
  | 69 => ⟨S1024x16384x1, .f32⟩
  | 70 => ⟨S1024x16384, .f32⟩
  | 71 => ⟨S_, .f32⟩
  | 72 => ⟨S1024x16384, .f32⟩
  | 73 => ⟨S1024x16384, .f32⟩
  | 74 => ⟨S1024x16384, .f32⟩
  | 75 => ⟨S16384x1, .f32⟩
  | 76 => ⟨S16384, .f32⟩
  | 77 => ⟨S1x16384, .f32⟩
  | 78 => ⟨S1024x16384, .f32⟩
  | 79 => ⟨S1024x16384, .f32⟩
  | 80 => ⟨S1024x16384, .f32⟩
  | 81 => ⟨S_, .f32⟩
  | 82 => ⟨S1024x16384, .f32⟩
  | 83 => ⟨S1024x16384x1, .f32⟩
  | 84 => ⟨S1024x16384, .f32⟩
  | 85 => ⟨S_, .f32⟩
  | 86 => ⟨S1024x16384, .f32⟩
  | 87 => ⟨S1024x16384, .f32⟩
  | 88 => ⟨S1024x16384, .f32⟩
  | 89 => ⟨S1024x16384x1, .f32⟩
  | 90 => ⟨S1024x16384, .f32⟩
  | 91 => ⟨S1024x16384, .f32⟩
  | 92 => ⟨S1024x16384x1, .f32⟩
  | 93 => ⟨S1024x16384, .f32⟩
  | 94 => ⟨S1024x16384, .f32⟩
  | 95 => ⟨S1024x16384x1, .f32⟩
  | 96 => ⟨S1024x16384, .f32⟩
  | 97 => ⟨S_, .f32⟩
  | 98 => ⟨S1024x16384, .f32⟩
  | 99 => ⟨S1024x16384, .f32⟩
  | 100 => ⟨S1024x16384, .f32⟩
  | 101 => ⟨S16384x1, .f32⟩
  | 102 => ⟨S16384, .f32⟩
  | 103 => ⟨S1x16384, .f32⟩
  | 104 => ⟨S1024x16384, .f32⟩
  | 105 => ⟨S1024x16384, .f32⟩
  | 106 => ⟨S1024x16384, .f32⟩
  | 107 => ⟨S_, .f32⟩
  | 108 => ⟨S1024x16384, .f32⟩
  | 109 => ⟨S1024x16384x1, .f32⟩
  | 110 => ⟨S1024x16384, .f32⟩
  | 111 => ⟨S1024x16384, .f32⟩
  | 112 => ⟨S1024x16384x1, .f32⟩
  | 113 => ⟨S1024x16384, .f32⟩
  | 114 => ⟨S1024x16384, .f32⟩
  | 115 => ⟨S1024x16384x1, .f32⟩
  | 116 => ⟨S1024x16384, .f32⟩
  | 117 => ⟨S1024x16384, .f32⟩
  | 118 => ⟨S1024x16384x1, .f32⟩
  | 119 => ⟨S1024x16384, .f32⟩
  | 120 => ⟨S_, .f32⟩
  | 121 => ⟨S1024x16384, .f32⟩
  | 122 => ⟨S1024x16384, .f32⟩
  | 123 => ⟨S1024x16384, .f32⟩
  | 124 => ⟨S16384x1, .f32⟩
  | 125 => ⟨S16384, .f32⟩
  | 126 => ⟨S1x16384, .f32⟩
  | 127 => ⟨S1024x16384, .f32⟩
  | _ => ⟨S1024x512, .f32⟩

abbrev hbmTy0_2 (i : Nat) : BufTy := match i % 128 with
  | 0 => ⟨S1024x16384, .f32⟩
  | 1 => ⟨S1024x16384, .f32⟩
  | 2 => ⟨S_, .f32⟩
  | 3 => ⟨S1024x16384, .f32⟩
  | 4 => ⟨S1024x16384x1, .f32⟩
  | 5 => ⟨S1024x16384, .f32⟩
  | 6 => ⟨S_, .f32⟩
  | 7 => ⟨S1024x16384, .f32⟩
  | 8 => ⟨S1024x16384, .f32⟩
  | 9 => ⟨S1024x16384, .f32⟩
  | 10 => ⟨S1024x16384x1, .f32⟩
  | 11 => ⟨S1024x16384, .f32⟩
  | 12 => ⟨S_, .f32⟩
  | 13 => ⟨S1024x16384, .f32⟩
  | 14 => ⟨S1024x16384, .f32⟩
  | 15 => ⟨S1024x16384, .f32⟩
  | 16 => ⟨S1024x16384x1, .f32⟩
  | 17 => ⟨S1024x16384, .f32⟩
  | 18 => ⟨S_, .f32⟩
  | 19 => ⟨S1024x16384, .f32⟩
  | 20 => ⟨S1024x16384, .f32⟩
  | 21 => ⟨S1024x16384, .f32⟩
  | 22 => ⟨S1024x16384x1, .f32⟩
  | 23 => ⟨S1024x16384, .f32⟩
  | 24 => ⟨S1024x16384, .f32⟩
  | 25 => ⟨S16384x1, .f32⟩
  | 26 => ⟨S16384, .f32⟩
  | 27 => ⟨S1x16384, .f32⟩
  | 28 => ⟨S1024x16384, .f32⟩
  | 29 => ⟨S1024x16384, .f32⟩
  | 30 => ⟨S1024x16384, .f32⟩
  | 31 => ⟨S_, .f32⟩
  | 32 => ⟨S1024x16384, .f32⟩
  | 33 => ⟨S1024x16384x1, .f32⟩
  | 34 => ⟨S1024x16384, .f32⟩
  | 35 => ⟨S1024x16384, .f32⟩
  | 36 => ⟨S1024x16384x1, .f32⟩
  | 37 => ⟨S1024x16384, .f32⟩
  | 38 => ⟨S_, .f32⟩
  | 39 => ⟨S1024x16384, .f32⟩
  | 40 => ⟨S1024x16384, .f32⟩
  | 41 => ⟨S1024x16384, .f32⟩
  | 42 => ⟨S1024x16384x1, .f32⟩
  | 43 => ⟨S1024x16384, .f32⟩
  | 44 => ⟨S_, .f32⟩
  | 45 => ⟨S1024x16384, .f32⟩
  | 46 => ⟨S1024x16384, .f32⟩
  | 47 => ⟨S1024x16384, .f32⟩
  | 48 => ⟨S1024x16384x1, .f32⟩
  | 49 => ⟨S1024x16384, .f32⟩
  | 50 => ⟨S1024x16384, .f32⟩
  | 51 => ⟨S16384x1, .f32⟩
  | 52 => ⟨S16384, .f32⟩
  | 53 => ⟨S1x16384, .f32⟩
  | 54 => ⟨S1024x16384, .f32⟩
  | 55 => ⟨S1024x16384, .f32⟩
  | 56 => ⟨S1024x16384, .f32⟩
  | 57 => ⟨S_, .f32⟩
  | 58 => ⟨S1024x16384, .f32⟩
  | 59 => ⟨S1024x16384x1, .f32⟩
  | 60 => ⟨S1024x16384, .f32⟩
  | 61 => ⟨S_, .f32⟩
  | 62 => ⟨S1024x16384, .f32⟩
  | 63 => ⟨S1024x16384, .f32⟩
  | 64 => ⟨S1024x16384, .f32⟩
  | 65 => ⟨S1024x16384x1, .f32⟩
  | 66 => ⟨S1024x16384, .f32⟩
  | 67 => ⟨S1024x16384, .f32⟩
  | 68 => ⟨S1024x16384x1, .f32⟩
  | 69 => ⟨S1024x16384, .f32⟩
  | 70 => ⟨S_, .f32⟩
  | 71 => ⟨S1024x16384, .f32⟩
  | 72 => ⟨S1024x16384, .f32⟩
  | 73 => ⟨S1024x16384, .f32⟩
  | 74 => ⟨S1024x16384x1, .f32⟩
  | 75 => ⟨S1024x16384, .f32⟩
  | 76 => ⟨S1024x16384, .f32⟩
  | 77 => ⟨S16384x1, .f32⟩
  | 78 => ⟨S16384, .f32⟩
  | 79 => ⟨S1x16384, .f32⟩
  | 80 => ⟨S1024x16384, .f32⟩
  | 81 => ⟨S1024x16384, .f32⟩
  | 82 => ⟨S1024x16384, .f32⟩
  | 83 => ⟨S_, .f32⟩
  | 84 => ⟨S1024x16384, .f32⟩
  | 85 => ⟨S1024x16384x1, .f32⟩
  | 86 => ⟨S1024x16384, .f32⟩
  | 87 => ⟨S1024x16384, .f32⟩
  | 88 => ⟨S1024x16384x1, .f32⟩
  | 89 => ⟨S1024x16384, .f32⟩
  | 90 => ⟨S1024x16384, .f32⟩
  | 91 => ⟨S1024x16384x1, .f32⟩
  | 92 => ⟨S1024x16384, .f32⟩
  | 93 => ⟨S_, .f32⟩
  | 94 => ⟨S1024x16384, .f32⟩
  | 95 => ⟨S1024x16384, .f32⟩
  | 96 => ⟨S1024x16384, .f32⟩
  | 97 => ⟨S1024x16384x1, .f32⟩
  | 98 => ⟨S1024x16384, .f32⟩
  | 99 => ⟨S1024x16384, .f32⟩
  | 100 => ⟨S16384x1, .f32⟩
  | 101 => ⟨S16384, .f32⟩
  | 102 => ⟨S1x16384, .f32⟩
  | 103 => ⟨S1024x16384, .f32⟩
  | 104 => ⟨S1024x16384, .f32⟩
  | 105 => ⟨S1024x16384, .f32⟩
  | 106 => ⟨S_, .f32⟩
  | 107 => ⟨S1024x16384, .f32⟩
  | 108 => ⟨S1024x16384x1, .f32⟩
  | 109 => ⟨S1024x16384, .f32⟩
  | 110 => ⟨S_, .f32⟩
  | 111 => ⟨S1024x16384, .f32⟩
  | 112 => ⟨S1024x16384, .f32⟩
  | 113 => ⟨S1024x16384, .f32⟩
  | 114 => ⟨S1024x16384x1, .f32⟩
  | 115 => ⟨S1024x16384, .f32⟩
  | 116 => ⟨S_, .f32⟩
  | 117 => ⟨S1024x16384, .f32⟩
  | 118 => ⟨S1024x16384, .f32⟩
  | 119 => ⟨S1024x16384, .f32⟩
  | 120 => ⟨S1024x16384x1, .f32⟩
  | 121 => ⟨S1024x16384, .f32⟩
  | 122 => ⟨S1024x16384, .f32⟩
  | 123 => ⟨S1024x16384x1, .f32⟩
  | 124 => ⟨S1024x16384, .f32⟩
  | 125 => ⟨S1024x16384, .f32⟩
  | 126 => ⟨S16384x1, .f32⟩
  | 127 => ⟨S16384, .f32⟩
  | _ => ⟨S1024x512, .f32⟩

abbrev hbmTy0_3 (i : Nat) : BufTy := match i % 128 with
  | 0 => ⟨S1x16384, .f32⟩
  | 1 => ⟨S1024x16384, .f32⟩
  | 2 => ⟨S1024x16384, .f32⟩
  | 3 => ⟨S1024x16384, .f32⟩
  | 4 => ⟨S_, .f32⟩
  | 5 => ⟨S1024x16384, .f32⟩
  | 6 => ⟨S1024x16384x1, .f32⟩
  | 7 => ⟨S1024x16384, .f32⟩
  | 8 => ⟨S1024x16384, .f32⟩
  | 9 => ⟨S1024x16384x1, .f32⟩
  | 10 => ⟨S1024x16384, .f32⟩
  | 11 => ⟨S_, .f32⟩
  | 12 => ⟨S1024x16384, .f32⟩
  | 13 => ⟨S1024x16384, .f32⟩
  | 14 => ⟨S1024x16384, .f32⟩
  | 15 => ⟨S1024x16384x1, .f32⟩
  | 16 => ⟨S1024x16384, .f32⟩
  | 17 => ⟨S1024x16384, .f32⟩
  | 18 => ⟨S1024x16384x1, .f32⟩
  | 19 => ⟨S1024x16384, .f32⟩
  | 20 => ⟨S1024x16384, .f32⟩
  | 21 => ⟨S16384x1, .f32⟩
  | 22 => ⟨S16384, .f32⟩
  | 23 => ⟨S1x16384, .f32⟩
  | 24 => ⟨S1024x16384, .f32⟩
  | 25 => ⟨S1024x16384, .f32⟩
  | 26 => ⟨S1024x16384, .f32⟩
  | 27 => ⟨S_, .f32⟩
  | 28 => ⟨S1024x16384, .f32⟩
  | 29 => ⟨S1024x16384x1, .f32⟩
  | 30 => ⟨S1024x16384, .f32⟩
  | 31 => ⟨S_, .f32⟩
  | 32 => ⟨S1024x16384, .f32⟩
  | 33 => ⟨S1024x16384, .f32⟩
  | 34 => ⟨S1024x16384, .f32⟩
  | 35 => ⟨S1024x16384x1, .f32⟩
  | 36 => ⟨S1024x16384, .f32⟩
  | 37 => ⟨S1024x16384, .f32⟩
  | 38 => ⟨S1024x16384x1, .f32⟩
  | 39 => ⟨S1024x16384, .f32⟩
  | 40 => ⟨S1024x16384, .f32⟩
  | 41 => ⟨S1024x16384x1, .f32⟩
  | 42 => ⟨S1024x16384, .f32⟩
  | 43 => ⟨S1024x16384, .f32⟩
  | 44 => ⟨S16384x1, .f32⟩
  | 45 => ⟨S16384, .f32⟩
  | 46 => ⟨S1x16384, .f32⟩
  | 47 => ⟨S1024x16384, .f32⟩
  | 48 => ⟨S1024x16384, .f32⟩
  | 49 => ⟨S1024x16384, .f32⟩
  | 50 => ⟨S_, .f32⟩
  | 51 => ⟨S1024x16384, .f32⟩
  | 52 => ⟨S1024x16384x1, .f32⟩
  | 53 => ⟨S1024x16384, .f32⟩
  | 54 => ⟨S1024x16384, .f32⟩
  | 55 => ⟨S1024x16384x1, .f32⟩
  | 56 => ⟨S1024x16384, .f32⟩
  | 57 => ⟨S1024x16384, .f32⟩
  | 58 => ⟨S1024x16384x1, .f32⟩
  | 59 => ⟨S1024x16384, .f32⟩
  | 60 => ⟨S1024x16384, .f32⟩
  | 61 => ⟨S1024x16384x1, .f32⟩
  | 62 => ⟨S1024x16384, .f32⟩
  | 63 => ⟨S1024x16384, .f32⟩
  | 64 => ⟨S16384x1, .f32⟩
  | 65 => ⟨S16384, .f32⟩
  | 66 => ⟨S1x16384, .f32⟩
  | 67 => ⟨S1024x16384, .f32⟩
  | 68 => ⟨S1024x16384, .f32⟩
  | 69 => ⟨S1024x16384, .f32⟩
  | 70 => ⟨S1024x128x128, .f32⟩
  | 71 => ⟨S_, .f32⟩
  | 72 => ⟨S1024x128, .f32⟩
  | 73 => ⟨S1x128, .f32⟩
  | 74 => ⟨S1024x128, .f32⟩
  | 75 => ⟨S1024x128, .f32⟩
  | _ => ⟨S1024x512, .f32⟩

abbrev hbmTy (i : Nat) : BufTy := match i / 128 with
  | 0 => hbmTy0_0 i
  | 1 => hbmTy0_1 i
  | 2 => hbmTy0_2 i
  | 3 => hbmTy0_3 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v2 : Ref sig .tc := ⟨.hbm, 35, rfl⟩
abbrev main_cst_1 : Ref sig .tc := ⟨.hbm, 36, rfl⟩
abbrev main_v3 : Ref sig .tc := ⟨.hbm, 37, rfl⟩
abbrev main_cst_2 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_3 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_4 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_5 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_8 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_9 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_10 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_11 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_12 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_13 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_14 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_16 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_17 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_18 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_19 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_20 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_21 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_22 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_23 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_24 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_25 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_26 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_27 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_28 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_cst_29 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_30 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_31 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_32 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_cst_33 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_cst_34 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_cst_35 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_cst_36 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_cst_37 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_cst_38 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_cst_39 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_cst_40 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_cst_41 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_cst_42 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_cst_43 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_cst_44 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_cst_45 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_cst_46 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_cst_47 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_cst_48 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_cst_49 : Ref sig .tc := ⟨.hbm, 434, rfl⟩
abbrev main_v353 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_cst_50 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩

abbrev nD : Nat := 1
abbrev τ : Topo := Topo.v7x

variable {F : FTy → Type} [FloatOps F]
-- ==== Proof.Table.lean ====
/- One table read, as the kernel and as the reference write it, and the sum over the tables, in extended reals. -/
module

public import Mathlib.Data.EReal.Operations
public import Mathlib.Algebra.BigOperators.Fin
public import Mathlib.Logic.Equiv.Fin.Basic
public import Mathlib.Tactic.Ring

@[expose] public section

noncomputable section

namespace Cert.Table

section Read

variable {R : Type} [Add R] [Sub R] [Mul R] [Zero R] [One R]

/-- The point at `x` on the line that is `a` at zero and `b` at one. -/
def line (a b x : R) : R := a + (b - a) * x

/-- A table of 16 entries read at four numbers by repeated interpolation: each level halves the table. -/
def look (c : Fin 16 → R) (x : Fin 4 → R) : R :=
  let c1 := fun a : Fin 8 => line (c ⟨2 * a.val, by omega⟩) (c ⟨2 * a.val + 1, by omega⟩) (x 0)
  let c2 := fun a : Fin 4 => line (c1 ⟨2 * a.val, by omega⟩) (c1 ⟨2 * a.val + 1, by omega⟩) (x 1)
  let c3 := fun a : Fin 2 => line (c2 ⟨2 * a.val, by omega⟩) (c2 ⟨2 * a.val + 1, by omega⟩) (x 2)
  line (c3 0) (c3 1) (x 3)

/-- What one of the four numbers contributes to an entry's weight: itself where the entry's bit is set, else one less it. -/
def side (bit : Bool) (x : R) : R := if bit then x else 1 - x

/-- The weight of entry `a`. -/
def weight (x : Fin 4 → R) (a : Nat) : R :=
  1 * side (a.testBit 0) (x 0) * side (a.testBit 1) (x 1) * side (a.testBit 2) (x 2) * side (a.testBit 3) (x 3)

/-- The weighted sum of the entries `0 … n`, added in order. -/
def mix (c : Fin 16 → R) (x : Fin 4 → R) : Nat → R
  | 0 => 0 + weight x 0 * c 0
  | n + 1 => mix c x n + weight x (n + 1) * c (Fin.ofNat 16 (n + 1))

end Read

/-- Over the reals, reading by interpolation is the weighted sum. -/
theorem look_eq_mix_real (c : Fin 16 → ℝ) (x : Fin 4 → ℝ) : look c x = mix c x 15 := by
  simp [look, line, mix, weight, side, Nat.testBit, Fin.ofNat]
  ring

/-- Interpolation of finite entries at finite numbers is the real one. -/
theorem look_coe (c : Fin 16 → ℝ) (x : Fin 4 → ℝ) :
    look (fun a => (c a : EReal)) (fun j => (x j : EReal)) = (look c x : ℝ) := by
  simp only [look, line]
  push_cast
  rfl

/-- A weight at finite numbers is the real one. -/
theorem weight_coe (x : Fin 4 → ℝ) (a : Nat) : weight (fun j => (x j : EReal)) a = (weight x a : ℝ) := by
  have h (b : Bool) (y : ℝ) : side b (y : EReal) = (side b y : ℝ) := by
    cases b
    · show 1 - (y : EReal) = ((1 - y : ℝ) : EReal)
      push_cast; rfl
    · rfl
  simp only [weight, h]
  push_cast
  rfl

/-- The weighted sum of finite entries at finite numbers is the real one. -/
theorem mix_coe (c : Fin 16 → ℝ) (x : Fin 4 → ℝ) (n : Nat) :
    mix (fun a => (c a : EReal)) (fun j => (x j : EReal)) n = (mix c x n : ℝ) := by
  induction n with
  | zero => simp only [mix, weight_coe]; push_cast; rfl
  | succ n ih => simp only [mix, weight_coe, ih]; push_cast; rfl

/-- For finite entries and numbers, reading by interpolation is the weighted sum. -/
theorem look_eq_mix (c : Fin 16 → EReal) (x : Fin 4 → EReal) (hc : ∀ a, ∃ v : ℝ, c a = v) (hx : ∀ j, ∃ v : ℝ, x j = v) :
    look c x = mix c x 15 := by
  choose c' hc using hc
  choose x' hx using hx
  rw [funext hc, funext hx, look_coe, mix_coe, look_eq_mix_real]

/-- A sum over `m * n` terms, taken `n` at a time. -/
theorem sum_split (m n : Nat) (f : Nat → EReal) :
    ∑ t : Fin (m * n), f t.val = ∑ a : Fin m, ∑ b : Fin n, f (n * a.val + b.val) := by
  rw [← finProdFinEquiv.sum_comp, Fintype.sum_prod_type]
  refine Finset.sum_congr rfl fun a _ => Finset.sum_congr rfl fun b _ => ?_
  show f (b.val + n * a.val) = _
  rw [add_comm]

/-- Steps, chunks and lanes together run over all tables; keeping those of output `o` leaves its own 128. -/
theorem sum_marked (f : Nat → EReal) (o : Fin 128) :
    ∑ s : Fin 4, ∑ k : Fin 16, ∑ l : Fin 256,
        f (4096 * s.val + (256 * k.val + l.val)) * (if 2 * (16 * s.val + k.val) + l.val / 128 = o.val then 1 else 0)
      = ∑ u : Fin 128, f (128 * o.val + u.val) := by
  let g : Nat → EReal := fun t => f t * (if t / 128 = o.val then 1 else 0)
  have h1 : ∑ s : Fin 4, ∑ k : Fin 16, ∑ l : Fin 256,
        f (4096 * s.val + (256 * k.val + l.val)) * (if 2 * (16 * s.val + k.val) + l.val / 128 = o.val then 1 else 0)
      = ∑ t : Fin (4 * 4096), g t.val := by
    rw [sum_split]
    refine Finset.sum_congr rfl fun s _ => ?_
    rw [sum_split 16 256 fun p => g (4096 * s.val + p)]
    refine Finset.sum_congr rfl fun k _ => Finset.sum_congr rfl fun l _ => ?_
    have e : (4096 * s.val + (256 * k.val + l.val)) / 128 = 2 * (16 * s.val + k.val) + l.val / 128 := by omega
    show _ = f _ * _
    rw [e]
  rw [h1, sum_split 128 128 g, Finset.sum_eq_single o]
  · refine Finset.sum_congr rfl fun u _ => ?_
    have e : (128 * o.val + u.val) / 128 = o.val := by omega
    show f _ * _ = _
    rw [e, if_pos rfl, mul_one]
  · intro o' _ h
    refine Finset.sum_eq_zero fun u _ => ?_
    have e : (128 * o'.val + u.val) / 128 ≠ o.val := by
      have : o'.val ≠ o.val := fun h' => h (Fin.ext h')
      omega
    show f _ * _ = _
    rw [if_neg e, mul_zero]
  · intro h; exact absurd (Finset.mem_univ _) h

end Cert.Table

end
-- ==== Proof.Spec.lean ====
/- The layer's mathematics: each output is its bias plus the reads of its 128 tables. -/
module

public import proofs.«01_k».proof.Proof.Table
public import Idealize.ShloMosaic.Lib.Pointwise

@[expose] public section

noncomputable section

namespace Cert.Table

open Idealize.ShloMosaic

/-- The input that index word `w` names, in batch row `r`; zero where it names none. -/
def pick (x : Shape.Idx ⟨2, ![1024, 512]⟩ → EReal) (r : Fin 1024) (w : BitVec 32) : EReal :=
  if h : w.toNat < 512 then x (ix2 r ⟨w.toNat, h⟩) else 0

/-- Arrays that agree on a row give the same input there. -/
theorem pick_congr {x y : Shape.Idx ⟨2, ![1024, 512]⟩ → EReal} {r : Fin 1024} (h : ∀ f, x (ix2 r f) = y (ix2 r f))
    (w : BitVec 32) : pick x r w = pick y r w := by
  unfold pick
  split
  · exact h _
  · rfl

/-- Entry `a` of table `t`. -/
def entry (c : Vec Ideal ⟨2, ![16384, 16]⟩ .f32) (t : Nat) (a : Fin 16) : EReal := c (ix2 (Fin.ofNat 16384 t) a)

/-- The `j`-th of the four inputs that table `t` is read at, in batch row `r`. -/
def input (x : Vec Ideal ⟨2, ![1024, 512]⟩ .f32) (q : Vec Ideal ⟨1, ![65536]⟩ .i32) (r : Fin 1024) (t : Nat) (j : Fin 4) :
    EReal := pick x r (q (ix1 (Fin.ofNat 65536 (t * 4 + j.val))))

/-- Table `t` read in batch row `r`. -/
def tableRead (x : Vec Ideal ⟨2, ![1024, 512]⟩ .f32) (q : Vec Ideal ⟨1, ![65536]⟩ .i32)
    (c : Vec Ideal ⟨2, ![16384, 16]⟩ .f32) (r : Fin 1024) (t : Nat) : EReal :=
  look (entry c t) (input x q r t)

/-- The layer's outputs. -/
def outputs (x : Vec Ideal ⟨2, ![1024, 512]⟩ .f32) (q : Vec Ideal ⟨1, ![65536]⟩ .i32)
    (c : Vec Ideal ⟨2, ![16384, 16]⟩ .f32) (b : Vec Ideal ⟨1, ![128]⟩ .f32) (r : Fin 1024) (o : Fin 128) : EReal :=
  b (ix1 o) + ∑ u : Fin 128, tableRead x q c r (128 * o.val + u.val)

end Cert.Table

end
-- ==== Proof.Block.lean ====
/- One chunk of the kernel's work, stated once for all sixteen chunks of a grid step: the gather of the selected
   inputs, the table reads by repeated interpolation, and the product that sums each output's tables. -/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The gather as the kernel does it: the inputs times the matrix whose column `q` marks the row that index `q` names. -/
def gather (mrow : Vec F S1x1x1024 .i32) (x : Vec F S1024x512 .bf16) : FVec F S1024x1024 .f32 :=
  matmul dot_S1024x512_S512x1024_S1024x1024_1_0_0_1_n_n none (shapeCast S1024x512 x shapeCasts_S1024x512_S1024x512)
    (truncf .bf16 (sitofp .f32 (extui 32 (cmpi .eq (iota .tc S512x1024 32 [0] iota_S512x1024_d0_w32)
      (broadcastTo S512x1024 (shapeCast S1x1024 mrow shapeCasts_S1x1x1024_S1x1024) broadcasts_S1x1024_S512x1024))
        natLt_1_32)) bitsLt_bf16_f32)
    (constant S1024x1024 .f32 0x00000000#32)

/-- Interpolation between two rows of table entries. -/
def lerpRow (c0 c1 : Vec F S1x256 .f32) (x : FVec F S1024x256 .f32) : FVec F S1024x256 .f32 :=
  addf (broadcastTo S1024x256 (shapeCast S1x256 c0 shapeCasts_S1x256_S1x256) broadcasts_S1x256_S1024x256)
    (mulf (broadcastTo S1024x256 (subf (shapeCast S1x256 c1 shapeCasts_S1x256_S1x256)
      (shapeCast S1x256 c0 shapeCasts_S1x256_S1x256)) broadcasts_S1x256_S1024x256) x)

/-- Interpolation between two blocks. -/
def lerp (c0 c1 x : FVec F S1024x256 .f32) : FVec F S1024x256 .f32 := addf c0 (mulf (subf c1 c0) x)

/-- The table reads: four levels of interpolation, each halving the number of entries. -/
def interp (g : FVec F S1024x1024 .f32) (c : Fin 16 → Vec F S1x256 .f32) : FVec F S1024x256 .f32 :=
  let x0 := extractStridedSlice S1024x256 ![0, 0] g slices_S1024x1024_o0_0_S1024x256
  let x1 := extractStridedSlice S1024x256 ![0, 256] g slices_S1024x1024_o0_256_S1024x256
  let x2 := extractStridedSlice S1024x256 ![0, 512] g slices_S1024x1024_o0_512_S1024x256
  let x3 := extractStridedSlice S1024x256 ![0, 768] g slices_S1024x1024_o0_768_S1024x256
  let c1 := fun a : Fin 8 => lerpRow (c ⟨2 * a.val, by omega⟩) (c ⟨2 * a.val + 1, by omega⟩) x0
  let c2 := fun a : Fin 4 => lerp (c1 ⟨2 * a.val, by omega⟩) (c1 ⟨2 * a.val + 1, by omega⟩) x1
  let c3 := fun a : Fin 2 => lerp (c2 ⟨2 * a.val, by omega⟩) (c2 ⟨2 * a.val + 1, by omega⟩) x2
  lerp (c3 0) (c3 1) x3

/-- The lane's position divided by 128, rounded down, as the program computes it. -/
def laneDiv : IVec S256x128 32 :=
  let it : IVec S256x128 32 := iota .tc S256x128 32 [0] iota_S256x128_d0_w32
  let q : IVec S256x128 32 := divsi it (broadcast S256x128 128#32)
  select (andi
      (cmpi .ne (subi (extui 32 (cmpi .sgt it (broadcast S256x128 0#32)) natLt_1_32)
          (extui 32 (cmpi .slt it (broadcast S256x128 0#32)) natLt_1_32))
        (broadcast S256x128 (Scalar.subi (Scalar.extui (Scalar.cmpi .sgt 128#32 0#32)) (Scalar.extui (Scalar.cmpi .slt 128#32 0#32)))))
      (cmpi .ne (remsi it (broadcast S256x128 128#32)) (broadcast S256x128 0#32)))
    (subi q (broadcast S256x128 1#32)) q

/-- The matrix that marks, for each of a chunk's 256 tables, the output it belongs to; `b` is the chunk's first output. -/
def marks (b : BitVec 32) : FVec F S256x128 .bf16 :=
  truncf .bf16 (sitofp .f32 (extui 32 (cmpi .eq (iota .tc S256x128 32 [1] iota_S256x128_d1_w32)
    (addi (broadcast S256x128 b) laneDiv)) natLt_1_32)) bitsLt_bf16_f32

/-- A chunk's first output, at grid step `s` and chunk `k`. -/
def firstOut (s k : BitVec 32) : BitVec 32 := Scalar.muli 2#32 (Scalar.addi (Scalar.muli s 16#32) k)

/-- One chunk's contribution to the outputs. -/
def contract (b : BitVec 32) (g : FVec F S1024x1024 .f32) (c : Fin 16 → Vec F S1x256 .f32) : FVec F S1024x128 .f32 :=
  matmul dot_S1024x256_S256x128_S1024x128_1_0_0_1_n_n none (truncf .bf16 (interp g c) bitsLt_bf16_f32) (marks b)
    (constant S1024x128 .f32 0x00000000#32)

/-- Chunk `k`'s indices lie inside a step's row of them. -/
theorem inb_mask (k : Fin 16) : ∀ a, (![0, 0, 1024 * k.val] : Fin 3 → Nat) a + S1x1x1024.size a ≤ S1x1x16384.size a := by
  intro a
  have := k.isLt
  fin_cases a
  · show 0 + 1 ≤ 1; omega
  · show 0 + 1 ≤ 1; omega
  · show 1024 * k.val + 1024 ≤ 16384; omega

/-- Chunk `k`'s part of row `a` of the tables lies inside a step's block of them. -/
theorem inb_luts (k a' : Fin 16) : ∀ a, (![a'.val, 256 * k.val] : Fin 2 → Nat) a + S1x256.size a ≤ S16x4096.size a := by
  intro a
  have := k.isLt
  have := a'.isLt
  fin_cases a
  · show a'.val + 1 ≤ 16; omega
  · show 256 * k.val + 256 ≤ 4096; omega

/-- Chunk `k`'s indices out of a step's. -/
def maskRow (x0 : Vec F S1x1x16384 .i32) (k : Fin 16) : Vec F S1x1x1024 .i32 :=
  View.ld (Val := Elt F) x0 (Rect.unit ![0, 0, 1024 * k.val] S1x1x1024.size (inb_mask k))

/-- Entry `a` of chunk `k`'s tables out of a step's. -/
def lutRow (x2 : Vec F S16x4096 .f32) (k a : Fin 16) : Vec F S1x256 .f32 :=
  View.ld (Val := Elt F) x2 (Rect.unit ![a.val, 256 * k.val] S1x256.size (inb_luts k a))

/-- Chunk `k` of grid step `s`. -/
def chunk (s : BitVec 32) (x0 : Vec F S1x1x16384 .i32) (x1 : Vec F S1024x512 .bf16) (x2 : Vec F S16x4096 .f32)
    (k : Fin 16) : FVec F S1024x128 .f32 :=
  contract (firstOut s (BitVec.ofNat 32 k.val)) (gather (maskRow x0 k) x1) (lutRow x2 k)

/-- The chunks `0 … n`, added in order. -/
def chunks (s : BitVec 32) (x0 : Vec F S1x1x16384 .i32) (x1 : Vec F S1024x512 .bf16) (x2 : Vec F S16x4096 .f32) :
    Nat → FVec F S1024x128 .f32
  | 0 => chunk s x0 x1 x2 0
  | n + 1 => addf (chunks s x0 x1 x2 n) (chunk s x0 x1 x2 (Fin.ofNat 16 (n + 1)))

/-- The zero offset of a rank-two buffer. -/
theorem hz : (![0, 0] : Fin 2 → Nat) = fun _ => 0 := funext fun a => by fin_cases a <;> rfl

set_option maxRecDepth 16384 in
/-- A later grid step leaves what the step before left plus its own sixteen chunks. -/
theorem out_B (c : Dev nD) (i : grid0.Coords) (arg1 : Memref sig .tc .vmem S1x1x16384 .i32) (harg1 : arg1.IsWhole) (arg2 : Memref sig .tc .vmem S1024x512 .bf16) (harg2 : arg2.IsWhole) (arg3 : Memref sig .tc .vmem S16x4096 .f32) (harg3 : arg3.IsWhole) (arg4 : Memref sig .tc .vmem S1x128 .f32) (harg4 : arg4.IsWhole) (arg5 : Memref sig .tc .vmem S1024x128 .f32) (harg5 : arg5.IsWhole) (hc0 : ¬cond0_0 i) (hc1 : cond0_1 i)
    (x0 : Vec F S1x1x16384 .i32) (x1 : Vec F S1024x512 .bf16) (x2 : Vec F S16x4096 .f32) (x3 : Vec F S1x128 .f32) (xo4 : Vec F S1024x128 .f32) :
    out0_B_4 c i arg1 harg1 arg2 harg2 arg3 harg3 arg4 harg4 arg5 harg5 hc0 hc1 x0 x1 x2 x3 xo4
      = k0_pay1 (chunks (BitVec.ofNat 32 (i 0).val) x0 x1 x2 15) xo4 := by
  unfold out0_B_4
  rw [View.read_writes_eq_canon _ _ _ (cover0_B_4 c i arg1 harg1 arg2 harg2 arg3 harg3 arg4 harg4 arg5 harg5 hc0 hc1 x0 x1 x2 x3 xo4)]
  unfold kernelRun0_B
  dsimp only
  rw [View.canon_unit_zero hz]
  sl_unfold_words
  simp only [View.readAt_eq_ld, harg1.read_unread, harg2.read_unread, harg3.read_unread, harg5.read_unread,
    View.ld_unit_zero (S := S1024x512) hz, View.ld_unit_zero (S := S1024x128) hz]
  sl_kernel_rfl

set_option maxRecDepth 16384 in
/-- The first grid step leaves its sixteen chunks plus the bias. -/
theorem out_A (c : Dev nD) (i : grid0.Coords) (arg1 : Memref sig .tc .vmem S1x1x16384 .i32) (harg1 : arg1.IsWhole) (arg2 : Memref sig .tc .vmem S1024x512 .bf16) (harg2 : arg2.IsWhole) (arg3 : Memref sig .tc .vmem S16x4096 .f32) (harg3 : arg3.IsWhole) (arg4 : Memref sig .tc .vmem S1x128 .f32) (harg4 : arg4.IsWhole) (arg5 : Memref sig .tc .vmem S1024x128 .f32) (harg5 : arg5.IsWhole) (hc0 : cond0_0 i) (hc1 : ¬cond0_1 i)
    (x0 : Vec F S1x1x16384 .i32) (x1 : Vec F S1024x512 .bf16) (x2 : Vec F S16x4096 .f32) (x3 : Vec F S1x128 .f32) :
    out0_A_4 c i arg1 harg1 arg2 harg2 arg3 harg3 arg4 harg4 arg5 harg5 hc0 hc1 x0 x1 x2 x3
      = k0_pay386 (chunks (BitVec.ofNat 32 (i 0).val) x0 x1 x2 15) x3 := by
  unfold out0_A_4
  rw [View.read_writes_eq_canon _ _ _ (cover0_A_4 c i arg1 harg1 arg2 harg2 arg3 harg3 arg4 harg4 arg5 harg5 hc0 hc1 x0 x1 x2 x3)]
  unfold kernelRun0_A
  dsimp only
  rw [View.canon_unit_zero hz]
  sl_unfold_words
  simp only [View.readAt_eq_ld, harg1.read_unread, harg2.read_unread, harg3.read_unread, harg4.read_unread,
    View.ld_unit_zero (S := S1024x512) hz, View.ld_unit_zero (S := S1x128) hz]
  sl_kernel_rfl

end Cert.KernelIdeal.Value

end
-- ==== Proof.Chunk.lean ====
/- One chunk of the kernel's work read at an index, floats being extended reals. -/
module

public import proofs.«01_k».proof.Proof.Block
public import proofs.«01_k».proof.Proof.Spec
public import Idealize.ShloMosaic.Lib.Pipeline.ValueKit.Tiles
public import Idealize.ShloMosaic.Lib.Pointwise

@[expose] public section

noncomputable section

namespace Cert.KernelIdeal.Value

open Cert.KernelIdeal Cert.KernelIdeal.Gen Idealize.ShloMosaic

/-- The number a mark stands for: one where the two words agree, else zero. -/
theorem mark (a b : BitVec 32) :
    (FloatOps.sitofp FTy.f32 (BitVec.setWidth 32 (IntOp.cmpi .eq a b)) : Ideal .f32)
      = if a = b then (1 : EReal) else 0 := by
  by_cases h : a = b
  · rw [if_pos h, h]
    simp [IntOp.cmpi, FloatOps.sitofp]
  · rw [if_neg h, show IntOp.cmpi .eq a b = 0#1 by simp [IntOp.cmpi, beq_eq_false_iff_ne.mpr h]]
    simp [FloatOps.sitofp]

/-- A row number is an index word just where it is the word's number. -/
theorem ofNat_eq_iff (f : Fin 512) (w : BitVec 32) : BitVec.ofNat 32 f.val = w ↔ f.val = w.toNat := by
  rw [← BitVec.toNat_inj, BitVec.toNat_ofNat, Nat.mod_eq_of_lt (by omega)]

/-- The marks pick the input each index names, and nothing where it names none. -/
theorem gather_apply (mrow : Vec Ideal S1x1x1024 .i32) (x : Vec Ideal S1024x512 .bf16) (r : Fin 1024) (q : Fin 1024) :
    gather mrow x (ix2 r q) = Table.pick x r (mrow (ix3 0 0 q)) := by
  pointwise [gather]
  simp only [mark, ofNat_eq_iff]
  generalize (mrow (ix3 0 0 q) : BitVec 32) = w
  unfold Table.pick
  split
  · rename_i h
    rw [Finset.sum_eq_single ⟨w.toNat, h⟩]
    · rw [if_pos rfl, mul_one]
    · intro g _ hg
      rw [if_neg fun e => hg (Fin.ext e), mul_zero]
    · intro h; exact absurd (Finset.mem_univ _) h
  · refine Finset.sum_eq_zero fun f _ => ?_
    rw [if_neg (by omega), mul_zero]

/-- The kernel's table reads, at an index. -/
theorem interp_apply (g : FVec Ideal S1024x1024 .f32) (c : Fin 16 → Vec Ideal S1x256 .f32) (r : Fin 1024) (l : Fin 256) :
    interp g c (ix2 r l)
      = Table.look (R := EReal) (fun a => c a (ix2 0 l)) (fun j : Fin 4 => g (ix2 r ⟨256 * j.val + l.val, by omega⟩)) := by
  pointwise [interp, lerp, lerpRow]
  have e : (⟨256 * (0 : Fin 4).val + l.val, by simp; omega⟩ : Fin 1024) = ⟨l.val, by omega⟩ :=
    Fin.ext (by simp)
  simp only [Table.look, Table.line, e]
  rfl

/-- A lane's output, counted from its chunk's first. -/
theorem laneDiv_apply (l : Fin 256) (o : Fin 128) : laneDiv (ix2 l o) = BitVec.ofNat 32 (l.val / 128) := by
  pointwise [laneDiv]
  revert l
  decide +kernel

/-- A chunk's first output, at every step and chunk. -/
theorem firstOut_eq (s : Fin 4) (k : Fin 16) :
    firstOut (BitVec.ofNat 32 s.val) (BitVec.ofNat 32 k.val) = BitVec.ofNat 32 (2 * (16 * s.val + k.val)) := by
  revert s k
  decide +kernel

/-- The marks of a chunk whose first output is `b`. -/
theorem marks_apply (b : Fin 128) (l : Fin 256) (o : Fin 128) :
    marks (F := Ideal) (BitVec.ofNat 32 b.val) (ix2 l o) = if b.val + l.val / 128 = o.val then (1 : EReal) else 0 := by
  have h := laneDiv_apply l o
  pointwise [marks]
  rw [h, mark]
  refine if_congr ?_ rfl rfl
  rw [show IntOp.addi (BitVec.ofNat 32 b.val) (BitVec.ofNat 32 (l.val / 128)) = BitVec.ofNat 32 (b.val + l.val / 128) from
    (BitVec.ofNat_add ..).symm]
  constructor
  · intro e
    have := congrArg BitVec.toNat e
    simp only [BitVec.toNat_ofNat] at this
    omega
  · intro e; rw [e]

/-- Chunk `k` of step `s`, at an index, when `word j l` is index `j` of lane `l`: the sum over the
    lanes of the table reads, those of other outputs times zero. -/
theorem chunk_apply (s : Fin 4) (k : Fin 16) (x0 : Vec Ideal S1x1x16384 .i32) (x1 : Vec Ideal S1024x512 .bf16)
    (x2 : Vec Ideal S16x4096 .f32) (word : Fin 4 → Fin 256 → BitVec 32)
    (h : ∀ (j : Fin 4) (l : Fin 256),
      x0 (ix3 0 0 ⟨1024 * k.val + (256 * j.val + l.val), by omega⟩) = word j l)
    (r : Fin 1024) (o : Fin 128) :
    chunk (BitVec.ofNat 32 s.val) x0 x1 x2 k (ix2 r o)
      = ∑ l : Fin 256, Table.look (R := EReal) (fun a => x2 (ix2 a ⟨256 * k.val + l.val, by omega⟩)) (fun j => Table.pick x1 r (word j l))
          * (if 2 * (16 * s.val + k.val) + l.val / 128 = o.val then 1 else 0) := by
  unfold chunk
  rw [firstOut_eq]
  generalize hg : gather (maskRow x0 k) x1 = g
  pointwise [contract]
  refine Finset.sum_congr rfl fun l _ => ?_
  rw [marks_apply ⟨2 * (16 * s.val + k.val), by omega⟩, interp_apply]
  congr 2
  · funext a
    refine View.ld_unit_apply_of _ _ _ _ _ _ fun d => ?_
    match d with
    | ⟨0, _⟩ => rfl
    | ⟨1, _⟩ => rfl
  · funext j
    rw [← hg, gather_apply, ← h j l]
    congr 1
    refine View.ld_unit_apply_of _ _ _ _ _ _ fun d => ?_
    match d with
    | ⟨0, _⟩ => rfl
    | ⟨1, _⟩ => rfl
    | ⟨2, _⟩ => rfl

end Cert.KernelIdeal.Value

end
-- ==== Proof.Inputs.lean ====
/- What each grid step reads of the kernel's four arguments. -/
module

public import proofs.«01_k».proof.Proof.Gen.KernelIdeal.Frame
public import Idealize.ShloMosaic.Lib.Pipeline.Value
public import Idealize.ShloMosaic.Lib.StableHlo.ReadAt
public import Idealize.ShloMosaic.Lib.Pointwise

@[expose] public section

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The grid has four steps. -/
theorem step_lt (t : Fin cfg0.N) : t.val < 4 := lt_of_lt_of_eq t.isLt N_0

/-- Step `t` reads row `t` of the re-laid indices. -/
theorem index_0 (t : Fin cfg0.N) : win0_0.index t 0 = t.val ∧ win0_0.index t 1 = 0 ∧ win0_0.index t 2 = 0 := by
  revert t; decide +kernel

/-- Step `t` reads all of the inputs. -/
theorem index_1 (t : Fin cfg0.N) : win0_1.index t 0 = 0 ∧ win0_1.index t 1 = 0 := by
  revert t; decide +kernel

/-- Step `t` reads column block `t` of the transposed tables. -/
theorem index_2 (t : Fin cfg0.N) : win0_2.index t 0 = 0 ∧ win0_2.index t 1 = t.val := by
  revert t; decide +kernel

/-- Step `t` reads all of the bias. -/
theorem index_3 (t : Fin cfg0.N) : win0_3.index t 0 = 0 ∧ win0_3.index t 1 = 0 := by
  revert t; decide +kernel

/-- The inputs as a step reads them: as given. -/
theorem iblk_1 (c : Dev nD) (t : Fin cfg0.N) (r : Fin 1024) (f : Fin 512) :
    (iblk m c 1 t : Vec Ideal S1024x512 .bf16) (ix2 r f) = m ((c : Thread nD τ).loc main_arg0) (ix2 r f) := by
  have hi := index_1 t
  have e : (iblk m c 1 t : Vec Ideal S1024x512 .bf16) (ix2 r f) = V m c main_v0 (ix2 r f) := by
    unfold iblk
    rw [View.read_apply]
    show V m c main_v0 _ = V m c main_v0 _
    congr 1
    funext a
    apply Fin.ext
    match a with
    | ⟨0, _⟩ => show win0_1.index t 0 * 1024 + 1 * r.val = r.val; rw [hi.1]; omega
    | ⟨1, _⟩ => show win0_1.index t 1 * 512 + 1 * f.val = f.val; rw [hi.2]; omega
  rw [e]
  unfold V
  after_reads_at

/-- The tables as step `t` reads them: entry `a` of table `4096 t + p`. -/
theorem iblk_2 (c : Dev nD) (t : Fin cfg0.N) (a : Fin 16) (p : Fin 4096) :
    (iblk m c 2 t : Vec Ideal S16x4096 .f32) (ix2 a p)
      = m ((c : Thread nD τ).loc main_arg2) (ix2 ⟨4096 * t.val + p.val, by have := step_lt t; omega⟩ a) := by
  have hi := index_2 t
  have e : (iblk m c 2 t : Vec Ideal S16x4096 .f32) (ix2 a p)
      = V m c main_v4 (ix2 a ⟨4096 * t.val + p.val, by have := step_lt t; omega⟩) := by
    unfold iblk
    rw [View.read_apply]
    show V m c main_v4 _ = V m c main_v4 _
    congr 1
    funext d
    apply Fin.ext
    match d with
    | ⟨0, _⟩ => show win0_2.index t 0 * 16 + 1 * a.val = a.val; rw [hi.1]; omega
    | ⟨1, _⟩ => show win0_2.index t 1 * 4096 + 1 * p.val = 4096 * t.val + p.val; rw [hi.2]; omega
  rw [e]
  unfold V
  after_reads_at

/-- The bias as a step reads it: as given. -/
theorem iblk_3 (c : Dev nD) (t : Fin cfg0.N) (o : Fin 128) :
    (iblk m c 3 t : Vec Ideal S1x128 .f32) (ix2 0 o) = m ((c : Thread nD τ).loc main_arg3) (ix1 o) := by
  have hi := index_3 t
  have e : (iblk m c 3 t : Vec Ideal S1x128 .f32) (ix2 0 o) = V m c main_v5 (ix2 0 o) := by
    unfold iblk
    rw [View.read_apply]
    show V m c main_v5 _ = V m c main_v5 _
    congr 1
    funext a
    apply Fin.ext
    match a with
    | ⟨0, _⟩ => show win0_3.index t 0 * 1 + 1 * 0 = 0; rw [hi.1]
    | ⟨1, _⟩ => show win0_3.index t 1 * 128 + 1 * o.val = o.val; rw [hi.2]; omega
  rw [e]
  unfold V
  after_reads_at

/-- The indices as step `t` reads them: place `256 j + l` of chunk `k` is index `j` of table `4096 t + 256 k + l`. -/
theorem iblk_0 (c : Dev nD) (t : Fin cfg0.N) (k : Fin 16) (j : Fin 4) (l : Fin 256) :
    (iblk m c 0 t : Vec Ideal S1x1x16384 .i32) (ix3 0 0 ⟨1024 * k.val + (256 * j.val + l.val), by omega⟩)
      = m ((c : Thread nD τ).loc main_arg1)
          (ix1 ⟨(4096 * t.val + (256 * k.val + l.val)) * 4 + j.val, by have := step_lt t; omega⟩) := by
  have hi := index_0 t
  have ht := step_lt t
  have e : (iblk m c 0 t : Vec Ideal S1x1x16384 .i32) (ix3 0 0 ⟨1024 * k.val + (256 * j.val + l.val), by omega⟩)
      = V m c main_v3 (ix3 ⟨t.val, ht⟩ 0 ⟨1024 * k.val + (256 * j.val + l.val), by omega⟩) := by
    unfold iblk
    rw [View.read_apply]
    show V m c main_v3 _ = V m c main_v3 _
    congr 1
    funext d
    apply Fin.ext
    match d with
    | ⟨0, _⟩ => show win0_0.index t 0 * 1 + 1 * 0 = t.val; rw [hi.1]; omega
    | ⟨1, _⟩ => show win0_0.index t 1 * 1 + 1 * 0 = 0; rw [hi.2.1]
    | ⟨2, _⟩ => show win0_0.index t 2 * 16384 + 1 * (1024 * k.val + (256 * j.val + l.val)) = 1024 * k.val + (256 * j.val + l.val); rw [hi.2.2]; omega
  rw [e]
  unfold V
  after_reads_at
  show m (c, Proc.tc.devRef main_arg1) _ = m (c, Proc.tc.devRef main_arg1) _
  congr 1
  funext d
  apply Fin.ext
  match d with
  | ⟨0, _⟩ =>
    show (t.val * 16 + (1024 * k.val + (256 * j.val + l.val)) / 1024) * 1024 + l.val * 4 + j.val
      = (4096 * t.val + (256 * k.val + l.val)) * 4 + j.val
    omega

end Cert.KernelIdeal.Value

end
-- ==== Proof.KernelValue.lean ====
/- The kernel's result array: each output is its bias plus the reads of its 128 tables. -/
module

public import proofs.«01_k».proof.Proof.Spec
public import proofs.«01_k».proof.Proof.Chunk
public import proofs.«01_k».proof.Proof.Inputs
public import proofs.«01_k».proof.Proof.Gen.KernelIdeal.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Table

variable (m : (ℓ : Loc nD τ sig) → Buf (Elt Ideal) ℓ)

/-- The inputs as launched. -/
abbrev argX (c : Dev nD) : Vec Ideal S1024x512 .f32 := m ((c : Thread nD τ).loc main_arg0)
/-- The indices as launched. -/
abbrev argQ (c : Dev nD) : Vec Ideal S65536 .i32 := m ((c : Thread nD τ).loc main_arg1)
/-- The tables as launched. -/
abbrev argC (c : Dev nD) : Vec Ideal S16384x16 .f32 := m ((c : Thread nD τ).loc main_arg2)
/-- The bias as launched. -/
abbrev argB (c : Dev nD) : Vec Ideal S128 .f32 := m ((c : Thread nD τ).loc main_arg3)

/-- The grid point's coordinate is its position. -/
theorem coords_val (t : Fin cfg0.N) : (grid0.coords t 0).val = t.val := by
  revert t; decide +kernel

/-- The chunks `0 … n` added in order are their sum. -/
theorem chunks_apply (s : BitVec 32) (x0 : Vec Ideal S1x1x16384 .i32) (x1 : Vec Ideal S1024x512 .bf16)
    (x2 : Vec Ideal S16x4096 .f32) (n : Nat) (i : S1024x128.Idx) :
    chunks s x0 x1 x2 n i = ∑ k ∈ Finset.range (n + 1), (chunk s x0 x1 x2 (Fin.ofNat 16 k) i : EReal) := by
  induction n with
  | zero => rw [Finset.sum_range_one]; rfl
  | succ n ih => rw [Finset.sum_range_succ, ← ih]; rfl

/-- Lane `l` of chunk `k` at step `s`: its table read, if it is one of output `o`'s. -/
def lane (c : Dev nD) (r : Fin 1024) (o : Fin 128) (s : Nat) (k : Fin 16) (l : Fin 256) : EReal :=
  tableRead (argX m c) (argQ m c) (argC m c) r (4096 * s + (256 * k.val + l.val))
    * (if 2 * (16 * s + k.val) + l.val / 128 = o.val then 1 else 0)

/-- Step `t`'s sixteen chunks together. -/
theorem step_apply (c : Dev nD) (t : Fin cfg0.N)
    (r : Fin 1024) (o : Fin 128) :
    chunks (BitVec.ofNat 32 (grid0.coords t 0).val) (iblk m c 0 t) (iblk m c 1 t) (iblk m c 2 t) 15 (ix2 r o)
      = ∑ k : Fin 16, ∑ l : Fin 256, lane m c r o t.val k l := by
  have ht := step_lt t
  rw [coords_val, chunks_apply, Finset.sum_range]
  refine Finset.sum_congr rfl fun k _ => ?_
  rw [show Fin.ofNat 16 k.val = k from Fin.ext (Nat.mod_eq_of_lt k.isLt)]
  refine (chunk_apply ⟨t.val, ht⟩ k _ _ _
    (fun j l => argQ m c (ix1 ⟨(4096 * t.val + (256 * k.val + l.val)) * 4 + j.val, by omega⟩))
    (fun j l => iblk_0 m c t k j l) r o).trans ?_
  refine Finset.sum_congr rfl fun l _ => ?_
  unfold lane tableRead
  congr 2
  · funext a
    rw [iblk_2]
    unfold entry
    congr 2
    apply Fin.ext
    show 4096 * t.val + (256 * k.val + l.val) = (4096 * t.val + (256 * k.val + l.val)) % 16384
    omega
  · funext j
    rw [pick_congr (iblk_1 m c t r)]
    unfold input
    congr 3
    apply Fin.ext
    show (4096 * t.val + (256 * k.val + l.val)) * 4 + j.val = ((4096 * t.val + (256 * k.val + l.val)) * 4 + j.val) % 65536
    omega

/-- What the result's buffer holds after step `n`: the bias plus the steps so far. -/
theorem outs_apply (c : Dev nD)
    (r : Fin 1024) (o : Fin 128) : ∀ (n : ℕ) (h : n < cfg0.N),
    (outsAt0 m c n h (ix2 r o) : EReal)
      = argB m c (ix1 o) + ∑ s ∈ Finset.range (n + 1), ∑ k : Fin 16, ∑ l : Fin 256, lane m c r o s k l
  | 0, h => by
    rw [outsAt0_A m c ⟨0, h⟩ rfl (Nat.not_succ_le_zero 0), out_A]
    generalize hA : chunks (BitVec.ofNat 32 (grid0.coords ⟨0, h⟩ 0).val) (iblk m c 0 ⟨0, h⟩) (iblk m c 1 ⟨0, h⟩)
      (iblk m c 2 ⟨0, h⟩) 15 = acc
    have e := step_apply m c ⟨0, h⟩ r o
    have e3 := iblk_3 m c ⟨0, h⟩ o
    rw [hA] at e
    generalize (iblk m c 3 ⟨0, h⟩ : Vec Ideal S1x128 .f32) = b at e3
    pointwise [k0_pay386]
    rw [e3, e, Finset.sum_range_one, add_comm]
  | n + 1, h => by
    have hN : cfg0.N = 4 := N_0
    have hB : ¬(⟨n + 1, h⟩ : Fin cfg0.N).val % 4 = 0 := by dsimp only; omega
    have ih := outs_apply c r o n (Nat.lt_of_succ_lt h)
    rw [outsAt0_B m c ⟨n + 1, h⟩ hB (Nat.le_add_left 1 n), out_B]
    generalize hA : chunks (BitVec.ofNat 32 (grid0.coords ⟨n + 1, h⟩ 0).val) (iblk m c 0 ⟨n + 1, h⟩) (iblk m c 1 ⟨n + 1, h⟩)
      (iblk m c 2 ⟨n + 1, h⟩) 15 = acc
    have e := step_apply m c ⟨n + 1, h⟩ r o
    rw [hA] at e
    pointwise [k0_pay1]
    rw [e, Finset.sum_range_succ, ← add_assoc, ← ih]
    rfl

/-- The result: what the buffer holds after the last step. -/
abbrev result (c : Dev nD) : Buf (Elt Ideal) ((c : Thread nD τ).loc main_v6) :=
  outsAt0 m c 3 (by rw [show cfg0.N = 4 from N_0]; decide)

/-- The one write-back, at the last step, writes the whole result. -/
theorem flushed_eq (c : Dev nD) (t : Fin cfg0.N) (hf : (cfg0.win 4).flush t = true) :
    (dats m 0 c).flushed 4 t = ((cfg0.win 4).blk t).view.read (Elt Ideal) (result m c) := by
  have hN : cfg0.N = 4 := N_0
  have h3 : t.val = 3 := by have := (flush0_4 t).mp hf; have := t.isLt; omega
  obtain rfl : t = t0_3 := Fin.ext h3
  show (cfg0.win 4).cut (grid0.coords t0_3) ((dats m 0 c).after 4 t0_3) = _
  rw [after0_4]
  have hz' : (fun a => win0_4.index t0_3 a * main_v6.ty.shape.size a) = fun _ => 0 := funext fun a => by fin_cases a <;> decide
  exact (Memref.read_access_unit_zero (Elt Ideal) main_v6 hz' (fun a => by rw [congrFun hz' a]; simp) (result m c)).symm

/-- The result array ends holding it. -/
theorem final_o (c : Dev nD) : (dats m 0 c).arrAt 4 cfg0.N = result m c :=
  (dats m 0 c).arrAt_eq_of_cover 4 (result m c) (flushed_eq m c) fun i =>
    ⟨t0_3, (flush0_4 t0_3).mpr rfl, by
      show i ∈ ((View.whole main_v6).slice (win0_4.rect t0_3)).set
      rw [View.set_slice_whole, Rect.mem_set_unit]
      intro a
      have h0 : (i 0 : Nat) < 1024 := (i 0).isLt
      have h1 : (i 1 : Nat) < 128 := (i 1).isLt
      match a with
      | ⟨0, _⟩ => show win0_4.index t0_3 0 * win0_4.size 0 ≤ (i 0 : Nat) ∧ (i 0 : Nat) < win0_4.index t0_3 0 * win0_4.size 0 + win0_4.xsize (grid0.coords t0_3) 0
                  rw [show win0_4.index t0_3 0 * win0_4.size 0 = 0 from by decide +kernel, show win0_4.xsize (grid0.coords t0_3) 0 = 1024 from by decide +kernel]; omega
      | ⟨1, _⟩ => show win0_4.index t0_3 1 * win0_4.size 1 ≤ (i 1 : Nat) ∧ (i 1 : Nat) < win0_4.index t0_3 1 * win0_4.size 1 + win0_4.xsize (grid0.coords t0_3) 1
                  rw [show win0_4.index t0_3 1 * win0_4.size 1 = 0 from by decide +kernel, show win0_4.xsize (grid0.coords t0_3) 1 = 128 from by decide +kernel]; omega⟩

/-- The result array, at an index: the layer's output. -/
theorem final_apply (c : Dev nD)
    (r : Fin 1024) (o : Fin 128) :
    (dats m 0 c).arrAt 4 cfg0.N (ix2 r o) = outputs (argX m c) (argQ m c) (argC m c) (argB m c) r o := by
  rw [final_o]
  refine (outs_apply m c r o 3 _).trans ?_
  rw [Finset.sum_range]
  unfold outputs lane
  rw [sum_marked fun t => tableRead (argX m c) (argQ m c) (argC m c) r t]

end Cert.KernelIdeal.Value

end
-- ==== Proof.Range.lean ====
/- What the precondition says, element by element. -/
module

public import proofs.«01_k».proof.Pre_in_range
public import proofs.«01_k».proof.Proof.Gen.Pre_in_range
public import proofs.«01_k».proof.Proof.Spec
public import Idealize.ShloMosaic.Lib.ReduceAll
public import Idealize.ShloMosaic.Lib.WordArith

@[expose] public section

noncomputable section

namespace Cert.Pre_in_range

open Cert.Pre_in_range Cert.Pre_in_range.Gen Idealize.ShloMosaic Cert.Table

/-- The four bounds the precondition compares with, as extended reals. -/
theorem zero_bits : Ideal.ofBits .f32 0x00000000#32 = 0 := by simp [Ideal.ofBits, Ideal.ieee, -EReal.coe_mul]
theorem one_bits : Ideal.ofBits .f32 0x3F800000#32 = 1 := by simp [Ideal.ofBits, Ideal.ieee, -EReal.coe_mul]; norm_num
theorem top_bits : Ideal.ofBits .f32 0x7F800000#32 = ⊤ := by simp [Ideal.ofBits, Ideal.ieee, -EReal.coe_mul]
theorem bot_bits : Ideal.ofBits .f32 0xFF800000#32 = ⊥ := by simp [Ideal.ofBits, Ideal.ieee, -EReal.coe_mul]

/-- The precondition, read: every input is between zero and one, no index is negative, every table entry is finite. -/
structure InRange (x : Vec Ideal ⟨2, ![1024, 512]⟩ .f32) (q : Vec Ideal ⟨1, ![65536]⟩ .i32)
    (c : Vec Ideal ⟨2, ![16384, 16]⟩ .f32) : Prop where
  input : ∀ i, (0 : EReal) ≤ x i ∧ x i ≤ (1 : EReal)
  index : ∀ i, (q i : BitVec 32).toNat < 2 ^ 31
  table : ∀ i, (⊥ : EReal) < c i ∧ c i < (⊤ : EReal)

/-- What the precondition's value being one says. -/
theorem inRange_of (x : Vec Ideal S1024x512 .f32) (q : Vec Ideal S65536 .i32) (c : Vec Ideal S16384x16 .f32)
    (b : Vec Ideal S128 .f32) (h : fn (F := Ideal) x q c b ix0 = 1#1) : InRange x q c := by
  haveI : Subsingleton S_.Idx := ⟨fun a b => funext fun i => i.elim0⟩
  dsimp only [fn, fn_part1] at h
  obtain ⟨h12, hC⟩ := IntOp.andi_eq_one.1 h
  obtain ⟨hX, hQ⟩ := IntOp.andi_eq_one.1 h12
  refine ⟨fun i => ?_, fun i => ?_, fun i => ?_⟩
  · obtain ⟨e1, e2⟩ := IntOp.andi_eq_one.1 (Host.reduce_andi_all _ _ _ _ _ hX i)
    have h1 : Ideal.cmp .oge (x i) (Ideal.ofBits .f32 0x00000000#32) = 1#1 := e1
    have h2 : Ideal.cmp .ole (x i) (Ideal.ofBits .f32 0x3F800000#32) = 1#1 := e2
    rw [zero_bits] at h1
    rw [one_bits] at h2
    exact ⟨of_decide_eq_true ((WordArith.ofBool_eq_one_iff _).1 h1), of_decide_eq_true ((WordArith.ofBool_eq_one_iff _).1 h2)⟩
  · have h1 : IntOp.cmpi .sge (q i) 0#32 = 1#1 := Host.reduce_andi_all _ _ _ _ _ hQ i
    have h2 : BitVec.sle 0#32 (q i) = true := (WordArith.ofBool_eq_one_iff _).1 h1
    rw [BitVec.sle_eq_decide, decide_eq_true_eq, show (0#32 : BitVec 32).toInt = 0 by decide] at h2
    have h3 := BitVec.toInt_eq_toNat_cond (q i : BitVec 32)
    have h4 := (q i : BitVec 32).isLt
    split at h3 <;> omega
  · obtain ⟨e1, e2⟩ := IntOp.andi_eq_one.1 (Host.reduce_andi_all _ _ _ _ _ hC i)
    have h1 : Ideal.cmp .ogt (c i) (Ideal.ofBits .f32 0xFF800000#32) = 1#1 := e1
    have h2 : Ideal.cmp .olt (c i) (Ideal.ofBits .f32 0x7F800000#32) = 1#1 := e2
    rw [bot_bits] at h1
    rw [top_bits] at h2
    exact ⟨of_decide_eq_true ((WordArith.ofBool_eq_one_iff _).1 h1), of_decide_eq_true ((WordArith.ofBool_eq_one_iff _).1 h2)⟩

end Cert.Pre_in_range

end
-- ==== Proof.RefTable.lean ====
/- The reference's table reads, stated once for all sixteen entries: each table's entries weighted by the four inputs. -/
module

public import proofs.«01_k».proof.Proof.Table
public import proofs.«01_k».proof.Proof.Gen.ReferenceIdeal.Read
public import Idealize.ShloMosaic.Lib.Pointwise
public import Idealize.ShloMosaic.Lib.Tactic

@[expose] public section

noncomputable section

namespace Cert.ReferenceIdeal.Read

open Cert.ReferenceIdeal Cert.ReferenceIdeal.Gen Idealize.ShloMosaic

variable {F : FTy → Type} [FloatOps F]

/-- Input `j` of every table lies inside the inputs. -/
theorem slices_input (j : Fin 4) : S1024x16384x4.Slices ![0, 0, j.val] S1024x16384x1 := by
  revert j; decide

/-- Entry `a` of every table lies inside the tables. -/
theorem slices_entry (a : Fin 16) : S16384x16.Slices ![0, a.val] S16384x1 := by
  revert a; decide

/-- The array of ones. -/
def ones : Vec F S1024x16384 .f32 := broadcastInDim S1024x16384 ![] bcast_S_S1024x16384 (constant S_ .f32 0x3F800000#32)

/-- Input `j` of every table, or one less it. -/
def sideOf (x : Vec F S1024x16384x4 .f32) (j : Fin 4) (bit : Bool) : Vec F S1024x16384 .f32 :=
  let xj := shapeCast S1024x16384 (extractStridedSlice S1024x16384x1 ![0, 0, j.val] x (slices_input j))
    shapeCasts_S1024x16384x1_S1024x16384
  match bit with
  | true => xj
  | false => subf ones xj

/-- The weight of entry `a` of every table. -/
def weightOf (x : Vec F S1024x16384x4 .f32) (a : Nat) : Vec F S1024x16384 .f32 :=
  mulf (mulf (mulf (mulf ones (sideOf x 0 (a.testBit 0))) (sideOf x 1 (a.testBit 1))) (sideOf x 2 (a.testBit 2)))
    (sideOf x 3 (a.testBit 3))

/-- Entry `a` of every table, in every row. -/
def entryOf (c : Vec F S16384x16 .f32) (a : Fin 16) : Vec F S1024x16384 .f32 :=
  broadcastInDim S1024x16384 ![0, 1] bcast_S1x16384_S1024x16384_0_1
    (broadcastInDim S1x16384 ![1] bcast_S16384_S1x16384_1
      (shapeCast S16384 (extractStridedSlice S16384x1 ![0, a.val] c (slices_entry a)) shapeCasts_S16384x1_S16384))

/-- The weighted sum of the entries `0 … n` of every table. -/
def mixOf (x : Vec F S1024x16384x4 .f32) (c : Vec F S16384x16 .f32) : Nat → Vec F S1024x16384 .f32
  | 0 => addf (broadcastInDim S1024x16384 ![] bcast_S_S1024x16384 (constant S_ .f32 0x00000000#32))
      (mulf (weightOf x 0) (entryOf c 0))
  | n + 1 => addf (mixOf x c n) (mulf (weightOf x (n + 1)) (entryOf c (Fin.ofNat 16 (n + 1))))

set_option maxRecDepth 16384 in
/-- The reference's table reads are the weighted sum of all sixteen entries. -/
theorem val_main_v371_eq (x0 : Vec F S1024x512 .f32) (x1 : Vec F S65536 .i32) (x2 : Vec F S16384x16 .f32) :
    val_main_v371 (F := F) x0 x1 x2 = mixOf (val_main_v2 (F := F) x0 x1) x2 15 := by
  sl_kernel_rfl

/-- One input's contribution to a weight, at an index. -/
theorem sideOf_apply (x : Vec Ideal S1024x16384x4 .f32) (j : Fin 4) (bit : Bool) (r : Fin 1024) (t : Fin 16384) :
    sideOf x j bit (ix2 r t) = Table.side (R := EReal) bit (x (ix3 r t j)) := by
  cases bit
  · pointwise [sideOf, ones]
    rfl
  · pointwise [sideOf, ones]
    rfl

/-- An entry, at an index. -/
theorem entryOf_apply (c : Vec Ideal S16384x16 .f32) (a : Fin 16) (r : Fin 1024) (t : Fin 16384) :
    entryOf c a (ix2 r t) = c (ix2 t a) := by
  pointwise [entryOf]

/-- A weight, at an index. -/
theorem weightOf_apply (x : Vec Ideal S1024x16384x4 .f32) (a : Nat) (r : Fin 1024) (t : Fin 16384) :
    weightOf x a (ix2 r t) = Table.weight (R := EReal) (fun j => x (ix3 r t j)) a := by
  have h := sideOf_apply x
  pointwise [weightOf, ones]
  simp only [h, Table.weight, one_mul]

/-- The weighted sum, at an index. -/
theorem mixOf_apply (x : Vec Ideal S1024x16384x4 .f32) (c : Vec Ideal S16384x16 .f32) (r : Fin 1024) (t : Fin 16384) (n : Nat) :
    mixOf x c n (ix2 r t) = Table.mix (R := EReal) (fun a => c (ix2 t a)) (fun j => x (ix3 r t j)) n := by
  induction n with
  | zero =>
    have h1 := weightOf_apply x 0 r t
    have h2 := entryOf_apply c 0 r t
    unfold mixOf
    generalize weightOf x 0 = w at h1 ⊢
    generalize entryOf c 0 = e at h2 ⊢
    pointwise []
    rw [h1, h2]
    simp only [Table.mix, zero_add]
  | succ n ih =>
    have h1 := weightOf_apply x (n + 1) r t
    have h2 := entryOf_apply c (Fin.ofNat 16 (n + 1)) r t
    show (mixOf x c n (ix2 r t) : EReal) + weightOf x (n + 1) (ix2 r t) * entryOf c (Fin.ofNat 16 (n + 1)) (ix2 r t) = _
    rw [ih, h1, h2]
    rfl

end Cert.ReferenceIdeal.Read

end
-- ==== Proof.RefValue.lean ====
/- The reference's result: each output is its bias plus the reads of its 128 tables. -/
module

public import proofs.«01_k».proof.Proof.Range
public import proofs.«01_k».proof.Proof.RefTable

@[expose] public section

noncomputable section

namespace Cert.ReferenceIdeal.Read

open Cert.ReferenceIdeal Cert.ReferenceIdeal.Gen Idealize.ShloMosaic Cert.Table Cert.Pre_in_range

/-- The gather's dimension numbers: whole columns of the inputs, one for each index. -/
abbrev columns : GatherDims S1024x512 S65536x1 S1024x65536 := gather_S1024x512_S65536x1_S1024x65536_0_1_n_n_1_1_10241

/-- The gather, at an index: the operand at the column the index word names, clamped to the last. -/
theorem gather_apply {α : Type} (x : S1024x512.Idx → α) (idx : IVec S65536x1 32) (r : Fin 1024) (p : Fin 65536) :
    Host.gather columns x idx (ix2 r p) = x (ix2 r ⟨min (idx (ix2 p 0)).toInt.toNat 511, by omega⟩) := by
  unfold Host.gather
  congr 1
  funext a
  refine Fin.ext ?_
  show columns.start (ix2 r p) idx a + columns.batchCoord (ix2 r p) a + columns.offCoord (ix2 r p) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show (0 : Fin 2) ∉ columns.startIndexMap by decide), dif_pos (show (0 : Fin 2) ∈ columns.sKept by decide)]
    show 0 + 0 + r.val = r.val
    omega
  · rw [GatherDims.offCoord_eq_zero _ _ _ (fun h => ((GatherDims.mem_sKept _ _).mp h).1 (List.mem_singleton.mpr rfl))]
    unfold GatherDims.start
    rw [dif_pos (show (1 : Fin 2) ∈ columns.startIndexMap from List.mem_singleton.mpr rfl)]
    have hsi : columns.siIdx (ix2 r p) ⟨List.idxOf (1 : Fin 2) columns.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl

/-- A word below 2³¹, read signed, is itself. -/
theorem toInt_of_lt (w : BitVec 32) (h : w.toNat < 2 ^ 31) : w.toInt = w.toNat :=
  BitVec.toInt_eq_toNat_of_lt (by omega)

/-- A word below 2³¹ is not negative. -/
theorem slt_zero (w : BitVec 32) (h : w.toNat < 2 ^ 31) : IntOp.cmpi .slt w 0#32 = 0#1 := by
  show BitVec.ofBool (BitVec.slt w 0#32) = 0#1
  rw [BitVec.slt_eq_decide, toInt_of_lt w h, decide_eq_false (by simp)]
  rfl

/-- A word below 2³¹ is at least zero. -/
theorem sge_zero (w : BitVec 32) (h : w.toNat < 2 ^ 31) : IntOp.cmpi .sge w 0#32 = 1#1 := by
  show BitVec.ofBool (BitVec.sle 0#32 w) = 1#1
  rw [BitVec.sle_eq_decide, toInt_of_lt w h, decide_eq_true (by simp)]
  rfl

/-- A word below 2³¹ is at most 511 just where it is below 512. -/
theorem sle_last (w : BitVec 32) (h : w.toNat < 2 ^ 31) : IntOp.cmpi .sle w 511#32 = BitVec.ofBool (decide (w.toNat < 512)) := by
  show BitVec.ofBool (BitVec.sle w 511#32) = _
  rw [BitVec.sle_eq_decide, toInt_of_lt w h, show (511#32 : BitVec 32).toInt = 511 by decide]
  congr 1
  exact decide_eq_decide.2 (by omega)

/-- What stands where an index names no input. -/
theorem fill_bits : Ideal.ofBits .f32 0x7FC00000#32 = ⊥ := by simp [Ideal.ofBits, Ideal.ieee, -EReal.coe_mul]

variable {x : Vec Ideal S1024x512 .f32} {q : Vec Ideal S65536 .i32} {c : Vec Ideal S16384x16 .f32}

/-- Within range, no index is moved up by the number of inputs. -/
theorem word_apply (h : InRange x q c) (p : Fin 65536) : val_main_call0_v5 (F := Ideal) q (ix2 p 0) = q (ix1 p) := by
  have hp := h.index (ix1 p)
  pointwise [val_main_call0_v5, val_main_call0_v4, val_main_call0_v1, val_main_call0_v0, val_main_call0_c]
  rw [slt_zero _ hp]
  rfl

/-- Within range, an index's range check says whether it is below the number of inputs. -/
theorem inside_apply (h : InRange x q c) (p : Fin 65536) :
    val_main_call0_v11 (F := Ideal) q (ix2 p 0) = BitVec.ofBool (decide ((q (ix1 p) : BitVec 32).toNat < 512)) := by
  have h1 := word_apply h p
  have hp := h.index (ix1 p)
  pointwise [val_main_call0_v11, val_main_call0_v7, val_main_call0_v10, val_main_call0_v6, val_main_call0_v9,
    val_main_call0_v8, val_main_call0_c_1, val_main_call0_c_2]
  rw [h1, sge_zero _ hp, sle_last _ hp]
  cases decide ((q (ix1 p) : BitVec 32).toNat < 512) <;> rfl

/-- Two bits are equal when one is set just where the other is. -/
theorem bit_ext (a b : BitVec 1) (h : a = 1#1 ↔ b = 1#1) : a = b := by
  revert a b; decide

/-- Within range, an index's check over its one word says whether it is below the number of inputs. -/
theorem check_apply (h : InRange x q c) (p : Fin 65536) :
    val_main_call0_v12 (F := Ideal) q (ix1 p) = BitVec.ofBool (decide ((q (ix1 p) : BitVec 32).toNat < 512)) := by
  rw [← inside_apply h p]
  have hd : ∀ i : S65536x1.Idx, reducesTo_S65536x1_S65536_d1.drop i = ix1 (i 0) := fun i => by
    funext a
    match a with
    | ⟨0, _⟩ => rfl
  refine bit_ext _ _ ⟨fun e => Host.reduce_andi_eq_one _ _ _ _ _ e (ix2 p 0) (hd _), fun e => ?_⟩
  unfold val_main_call0_v12
  rw [Host.reduce_eq_foldl]
  refine IntOp.foldl_andi_one _ _ _ rfl fun i hi => ?_
  have hp : ix1 (i 0) = ix1 p := (hd i).symm.trans (of_decide_eq_true (List.mem_filter.1 hi).2)
  obtain ⟨p', z, rfl⟩ : ∃ p z, i = ix2 p z := ⟨i 0, i 1, by idx_vars i⟩
  obtain rfl : z = 0 := Subsingleton.elim _ _
  obtain rfl : p' = p := congrFun hp 0
  exact e

/-- Within range, a gathered input is the one its index names, and the fill where it names none. -/
theorem gathered_apply (h : InRange x q c) (r : Fin 1024) (p : Fin 65536) :
    val_main_v0 (F := Ideal) x q (ix2 r p)
      = if hp : (q (ix1 p) : BitVec 32).toNat < 512 then x (ix2 r ⟨(q (ix1 p) : BitVec 32).toNat, hp⟩) else (⊥ : EReal) := by
  have h2 := word_apply h p
  have h3 := gather_apply x (val_main_call0_v5 (F := Ideal) q) r p
  split
  · rename_i hp
    have h1 := (check_apply h p).trans (by rw [decide_eq_true hp])
    pointwise [val_main_v0, val_main_call0_v14]
    rw [h1]
    refine h3.trans ?_
    refine congrArg (fun f : Fin 512 => x (ix2 r f)) (Fin.ext ?_)
    show min (BitVec.toInt (val_main_call0_v5 (F := Ideal) q (ix2 p 0))).toNat 511 = (q (ix1 p) : BitVec 32).toNat
    rw [h2, toInt_of_lt _ (h.index _), Int.toNat_natCast, Nat.min_eq_left (Nat.le_of_lt_succ hp)]
  · rename_i hp
    have h1 := (check_apply h p).trans (by rw [decide_eq_false hp])
    pointwise [val_main_v0, val_main_call0_v14, val_main_call0_v15, val_main_call0_cst]
    rw [h1]
    exact fill_bits

/-- Within range, an input picked is between zero and one. -/
theorem pick_range (h : InRange x q c) (r : Fin 1024) (w : BitVec 32) : (0 : EReal) ≤ pick x r w ∧ pick x r w ≤ 1 := by
  unfold pick
  split
  · exact h.input _
  · exact ⟨le_rfl, zero_le_one⟩

/-- Within range, the inputs that tables are read at, clipped to between zero and one, are those picked. -/
theorem clipped_apply (h : InRange x q c) (r : Fin 1024) (t : Fin 16384) (j : Fin 4) :
    val_main_v2 (F := Ideal) x q (ix3 r t j) = input x q r t.val j := by
  have h1 := gathered_apply h r (Fin.ofNat 65536 (t.val * 4 + j.val))
  pointwise [val_main_v2, val_main_call1_v4, val_main_call1_v3, val_main_call1_v2, val_main_call1_v1, val_main_call1_v0, val_main_v1, val_main_cst, val_main_cst_0]
  have e : (⟨t.val * 4 + j.val, by omega⟩ : Fin 65536) = Fin.ofNat 65536 (t.val * 4 + j.val) :=
    Fin.ext (Nat.mod_eq_of_lt (by omega)).symm
  show min (Ideal.ofBits .f32 0x3F800000#32) (max (Ideal.ofBits .f32 0x00000000#32) _) = _
  rw [e, h1, one_bits, zero_bits]
  unfold input pick
  split
  · rw [max_eq_right (h.input _).1, min_eq_right (h.input _).2]
  · rw [max_eq_left bot_le, min_eq_right zero_le_one]

/-- A finite extended real is a real number. -/
theorem real_of {v : EReal} (h1 : ⊥ < v) (h2 : v < ⊤) : ∃ y : ℝ, v = y := ⟨v.toReal, (EReal.coe_toReal h2.ne h1.ne').symm⟩

/-- Within range, the reference's read of a table is the kernel's. -/
theorem read_apply (h : InRange x q c) (r : Fin 1024) (t : Fin 16384) :
    val_main_v371 (F := Ideal) x q c (ix2 r t) = tableRead x q c r t.val := by
  rw [val_main_v371_eq, mixOf_apply, funext (clipped_apply h r t)]
  have e : (fun a => c (ix2 t a)) = entry c t.val := by
    funext a
    unfold entry
    congr 2
    exact Fin.ext (Nat.mod_eq_of_lt t.isLt).symm
  rw [e]
  refine (look_eq_mix _ _ (fun a => ?_) (fun j => ?_)).symm
  · exact real_of (h.table _).1 (h.table _).2
  · exact real_of (lt_of_lt_of_le (EReal.bot_lt_coe 0) (pick_range h _ _).1) (lt_of_le_of_lt (pick_range h _ _).2 (EReal.coe_lt_top 1))

/-- Within range, the reference's result is the layer's outputs. -/
theorem result_apply (h : InRange x q c) (b : Vec Ideal S128 .f32) (r : Fin 1024) (o : Fin 128) :
    val_main_v376 (F := Ideal) x q c b (ix2 r o) = outputs x q c b r o := by
  have h1 := read_apply h r
  pointwise [val_main_v376, val_main_v373, val_main_v372, val_main_v375, val_main_v374, val_main_cst_50]
  unfold outputs
  rw [add_comm]
  refine congrArg (b (ix1 o) + ·) (Finset.sum_congr rfl fun u _ => (h1 _).trans ?_)
  show tableRead x q c r (o.val * 128 + u.val) = _
  rw [Nat.mul_comm]

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as launched, and has no semaphores. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

/-- From arguments equal to the kernel's and within range, the reference's value is the array the kernel's pipeline
    leaves: at every index the layer's output. -/
theorem value_eq {m : (ℓ : Loc Cert.KernelIdeal.nD Cert.KernelIdeal.τ Cert.KernelIdeal.sig) → Buf (Elt Ideal) ℓ}
    {c : Dev Cert.KernelIdeal.nD}
    (hr : Cert.Pre_in_range.InRange (Cert.KernelIdeal.Value.argX m c) (Cert.KernelIdeal.Value.argQ m c) (Cert.KernelIdeal.Value.argC m c))
    {x q t b} (e0 : x = Cert.KernelIdeal.Value.argX m c) (e1 : q = Cert.KernelIdeal.Value.argQ m c)
    (e2 : t = Cert.KernelIdeal.Value.argC m c) (e3 : b = Cert.KernelIdeal.Value.argB m c) :
    Cert.ReferenceIdeal.Read.val_main_v376 (F := Ideal) x q t b = (Cert.KernelIdeal.Gen.dats m 0 c).arrAt 4 Cert.KernelIdeal.cfg0.N := by
  subst e0 e1 e2 e3
  funext i
  obtain ⟨y, o, rfl⟩ : ∃ y o, i = ix2 y o := ⟨i 0, i 1, by idx_vars i⟩
  exact (Cert.ReferenceIdeal.Read.result_apply hr _ y o).trans (Cert.KernelIdeal.Value.final_apply m c y o).symm

/-- Within range, the kernel's result and the reference's, run from the same arguments, are one array. -/
theorem algebraic : Cert.algebraic_KernelIdeal_ReferenceIdeal_pre_in_range := by
  intro m g m' g' hpre hagree
  refine ⟨fun c => (Cert.KernelIdeal.Gen.dats m 0 c).arrAt 4 Cert.KernelIdeal.cfg0.N,
    Cert.KernelIdeal.Value.run_blocks m g, (θ_run _ _ _).mono (fun r h c => ⟨?_, (h c).2⟩) (Cert.ReferenceIdeal.Value.run m' g')⟩
  have hr := Cert.Pre_in_range.inRange_of _ _ _ _ (congrFun (hpre c) ix0)
  obtain ⟨e0, e1, e2, e3⟩ := hagree c
  exact ((h c).1.trans (Cert.ReferenceIdeal.Read.val_main_v376_eq _)).trans (value_eq hr e0 e1 e2 e3)

/-- The claims: the kernel, its ideal reading and the reference each run and keep their arguments; the ideal reading
    rewrites nothing; and within range kernel and reference compute one array. -/
theorem claim : Cert.Claim := ⟨Cert.Kernel.Gen.facts, Cert.KernelIdeal.Gen.facts, Cert.ReferenceIdeal.Gen.facts, Cert.Pre_in_range.Gen.facts,
  fun m g _ => Cert.Kernel.Gen.frame m g, fun m g _ => Cert.KernelIdeal.Gen.frame m g, fun m g _ => Cert.KernelIdeal.Gen.frame m g,
  fun m g _ => frame_reference m g, fun m g _ => frame_reference m g, trivial, algebraic⟩

end Cert.Proof

end
